-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_top [hPre_distinct_top : Cert.Pre_distinct_top.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_top [hPre_distinct_top : Cert.Pre_distinct_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_distinct_top [hKernelIdeal : Cert.KernelIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_distinct_top [hReferenceIdeal : Cert.ReferenceIdeal.Facts] [hPre_distinct_top : Cert.Pre_distinct_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "seventh" .f32 0x3E124925#32 ((1 / 7 : ℝ) : EReal)

def algebraic_KernelIdeal_ReferenceIdeal_pre_distinct_top [hKernelIdeal : Cert.KernelIdeal.Facts] [hReferenceIdeal : Cert.ReferenceIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_distinct_top : Cert.Pre_distinct_top.Facts),
    quiescent_Kernel (hKernel := hKernel)
    ∧ quiescent_KernelIdeal (hKernelIdeal := hKernelIdeal)
    ∧ quiescent_KernelIdeal_pre_distinct_top (hKernelIdeal := hKernelIdeal) (hPre_distinct_top := hPre_distinct_top)
    ∧ quiescent_ReferenceIdeal (hReferenceIdeal := hReferenceIdeal)
    ∧ quiescent_ReferenceIdeal_pre_distinct_top (hReferenceIdeal := hReferenceIdeal) (hPre_distinct_top := hPre_distinct_top)
    ∧ preserves_Kernel_KernelIdeal
    ∧ algebraic_KernelIdeal_ReferenceIdeal_pre_distinct_top (hKernelIdeal := hKernelIdeal) (hReferenceIdeal := hReferenceIdeal) (hPre_distinct_top := hPre_distinct_top)
-- ==== Pre_distinct_top.lean ====
abbrev S4x64x64x384 : Shape := ⟨4, ![4, 64, 64, 384]⟩
abbrev S48x128 : Shape := ⟨2, ![48, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S448x512 : Shape := ⟨2, ![448, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S4x64x64x64 : Shape := ⟨4, ![4, 64, 64, 64]⟩
abbrev S4x64x64x17 : Shape := ⟨4, ![4, 64, 64, 17]⟩
abbrev S4x64x64x16 : Shape := ⟨4, ![4, 64, 64, 16]⟩

class Facts : Prop where
  sliceFits_S4x64x64x64_S4x64x64x17 : S4x64x64x64.Slices (fun _ => 0) S4x64x64x17
  slices_S4x64x64x17_S4x64x64x16_0_0_0_0 : S4x64x64x17.Slices ![0, 0, 0, 0] S4x64x64x16
  slices_S4x64x64x17_S4x64x64x16_0_0_0_1 : S4x64x64x17.Slices ![0, 0, 0, 1] S4x64x64x16
  dot_S4x64x64x384_S4x64x64x384_S4x64x64x64_3_3_2_2_01_01_wf : DotDims.WF S4x64x64x384 S4x64x64x384 S4x64x64x64 [3] [3] [2] [2] [0, 1] [0, 1]

variable [Facts]

def dot_S4x64x64x384_S4x64x64x384_S4x64x64x64_3_3_2_2_01_01 : DotDims S4x64x64x384 S4x64x64x384 S4x64x64x64 where
  lhsContracting := [3]
  rhsContracting := [3]
  lhsNonContracting := [2]
  rhsNonContracting := [2]
  lhsBatch := [0, 1]
  rhsBatch := [0, 1]
  wf := dot_S4x64x64x384_S4x64x64x384_S4x64x64x64_3_3_2_2_01_01_wf
def fn {F : FTy → Type} [FloatOps F] (main_arg0 : FVec F S4x64x64x384 .f32) (main_arg1 : FVec F S48x128 .f32) (main_arg2 : FVec F S128 .f32) (main_arg3 : FVec F S128x128 .f32) (main_arg4 : FVec F S128 .f32) (main_arg5 : FVec F S128x64 .f32) (main_arg6 : FVec F S64 .f32) (main_arg7 : FVec F S448x512 .f32) (main_arg8 : FVec F S512 .f32) (main_arg9 : FVec F S512x512 .f32) (main_arg10 : FVec F S512 .f32) (main_arg11 : FVec F S512x256 .f32) (main_arg12 : FVec F S256 .f32) : IVec S4x64x64x16 1 :=
  let main_v0 : FVec F S4x64x64x64 .f32 := (fun l r => Host.dotGeneral dot_S4x64x64x384_S4x64x64x384_S4x64x64x64_3_3_2_2_01_01 none l r) main_arg0 main_arg0
  let main_values : FVec F S4x64x64x17 .f32 := (fun x => (Host.topK S4x64x64x17 3 (FloatOps.cmpfTotal .gt) x sliceFits_S4x64x64x64_S4x64x64x17).1) main_v0
  let main_indices : IVec S4x64x64x17 32 := (fun x => (Host.topK S4x64x64x17 3 (FloatOps.cmpfTotal .gt) x sliceFits_S4x64x64x64_S4x64x64x17).2) main_v0
  let main_v1 : FVec F S4x64x64x16 .f32 := (extractStridedSlice S4x64x64x16 ![0, 0, 0, 0] · slices_S4x64x64x17_S4x64x64x16_0_0_0_0) main_values
  let main_v2 : FVec F S4x64x64x16 .f32 := (extractStridedSlice S4x64x64x16 ![0, 0, 0, 1] · slices_S4x64x64x17_S4x64x64x16_0_0_0_1) main_values
  let main_v3 : IVec S4x64x64x16 1 := cmpf .ogt main_v1 main_v2
  main_v3
-- ==== Kernel.lean ====
abbrev S4x64x64x384 : Shape := ⟨4, ![4, 64, 64, 384]⟩
abbrev S48x128 : Shape := ⟨2, ![48, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S448x512 : Shape := ⟨2, ![448, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x64x384 : Shape := ⟨3, ![256, 64, 384]⟩
abbrev S128x1 : Shape := ⟨2, ![128, 1]⟩
abbrev S64x1 : Shape := ⟨2, ![64, 1]⟩
abbrev S1x512 : Shape := ⟨2, ![1, 512]⟩
abbrev S1x256 : Shape := ⟨2, ![1, 256]⟩
abbrev S16384x256 : Shape := ⟨2, ![16384, 256]⟩
abbrev S64x64x384 : Shape := ⟨3, ![64, 64, 384]⟩
abbrev S4096x256 : Shape := ⟨2, ![4096, 256]⟩
abbrev S1x64x384 : Shape := ⟨3, ![1, 64, 384]⟩
abbrev S64x384 : Shape := ⟨2, ![64, 384]⟩
abbrev S64x64 : Shape := ⟨2, ![64, 64]⟩
abbrev S64x4096 : Shape := ⟨2, ![64, 4096]⟩
abbrev S4096 : Shape := ⟨1, ![4096]⟩
abbrev S1x4096 : Shape := ⟨2, ![1, 4096]⟩
abbrev S16x4096 : Shape := ⟨2, ![16, 4096]⟩
abbrev S16x1024 : Shape := ⟨2, ![16, 1024]⟩
abbrev S1024x4096 : Shape := ⟨2, ![1024, 4096]⟩
abbrev S16x1x4096 : Shape := ⟨3, ![16, 1, 4096]⟩
abbrev S16x2x4096 : Shape := ⟨3, ![16, 2, 4096]⟩
abbrev S32x4096 : Shape := ⟨2, ![32, 4096]⟩
abbrev S48x4096 : Shape := ⟨2, ![48, 4096]⟩
abbrev S128x48 : Shape := ⟨2, ![128, 48]⟩
abbrev S128x4096 : Shape := ⟨2, ![128, 4096]⟩
abbrev S64x128 : Shape := ⟨2, ![64, 128]⟩
abbrev S4096x64 : Shape := ⟨2, ![4096, 64]⟩
abbrev S4096x384 : Shape := ⟨2, ![4096, 384]⟩
abbrev S4096x448 : Shape := ⟨2, ![4096, 448]⟩
abbrev S4096x512 : Shape := ⟨2, ![4096, 512]⟩

abbrev nBuf : Space → Nat
  | .hbm => 21
  | .vmem => 16
  | .smem => 0
  | _ => 0

abbrev bufTy : (tb : Table) → Fin (tcTables nBuf tb) → BufTy
  | .hbm, ⟨0, _⟩ => ⟨S4x64x64x384, .f32⟩
  | .hbm, ⟨1, _⟩ => ⟨S48x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S448x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S256x64x384, .f32⟩
  | .hbm, ⟨14, _⟩ => ⟨S128x1, .f32⟩
  | .hbm, ⟨15, _⟩ => ⟨S128x1, .f32⟩
  | .hbm, ⟨16, _⟩ => ⟨S64x1, .f32⟩
  | .hbm, ⟨17, _⟩ => ⟨S1x512, .f32⟩
  | .hbm, ⟨18, _⟩ => ⟨S1x512, .f32⟩
  | .hbm, ⟨19, _⟩ => ⟨S1x256, .f32⟩
  | .hbm, ⟨20, _⟩ => ⟨S16384x256, .f32⟩
  | .local _ .vmem, ⟨0, _⟩ => ⟨S64x64x384, .f32⟩
  | .local _ .vmem, ⟨1, _⟩ => ⟨S64x64x384, .f32⟩
  | .local _ .vmem, ⟨2, _⟩ => ⟨S48x128, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x64, .f32⟩
  | .local _ .vmem, ⟨7, _⟩ => ⟨S64x1, .f32⟩
  | .local _ .vmem, ⟨8, _⟩ => ⟨S448x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S4096x256, .f32⟩
  | .local _ .vmem, ⟨15, _⟩ => ⟨S4096x256, .f32⟩
  | _, _ => ⟨S4x64x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S448x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "seventh" => some ((1 / 7 : ℝ) : EReal)
  | _ => none
-- ==== ReferenceIdeal.lean ====
abbrev S4x64x64x384 : Shape := ⟨4, ![4, 64, 64, 384]⟩
abbrev S48x128 : Shape := ⟨2, ![48, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S448x512 : Shape := ⟨2, ![448, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S4x64x64x64 : Shape := ⟨4, ![4, 64, 64, 64]⟩
abbrev S4x64x64x16 : Shape := ⟨4, ![4, 64, 64, 16]⟩
abbrev S8 : Shape := ⟨1, ![8]⟩
abbrev S8x1 : Shape := ⟨2, ![8, 1]⟩
abbrev S8x1x8 : Shape := ⟨3, ![8, 1, 8]⟩
abbrev S8x8 : Shape := ⟨2, ![8, 8]⟩
abbrev S1x8 : Shape := ⟨2, ![1, 8]⟩
abbrev S1x8x8 : Shape := ⟨3, ![1, 8, 8]⟩
abbrev S8x8x1 : Shape := ⟨3, ![8, 8, 1]⟩
abbrev S8x8x2 : Shape := ⟨3, ![8, 8, 2]⟩
abbrev S_ : Shape := ⟨0, ![]⟩
abbrev S64x2 : Shape := ⟨2, ![64, 2]⟩
abbrev S1x1x64x1x2 : Shape := ⟨5, ![1, 1, 64, 1, 2]⟩
abbrev S4x64x64x16x1 : Shape := ⟨5, ![4, 64, 64, 16, 1]⟩
abbrev S1 : Shape := ⟨1, ![1]⟩
abbrev S1x1x1x1x1 : Shape := ⟨5, ![1, 1, 1, 1, 1]⟩
abbrev S4x64x64x16x2 : Shape := ⟨5, ![4, 64, 64, 16, 2]⟩
abbrev S4x64x64x32 : Shape := ⟨4, ![4, 64, 64, 32]⟩
abbrev S4x64x64x48 : Shape := ⟨4, ![4, 64, 64, 48]⟩
abbrev S4x64x64x128 : Shape := ⟨4, ![4, 64, 64, 128]⟩
abbrev S1x1x1x128 : Shape := ⟨4, ![1, 1, 1, 128]⟩
abbrev S1x1x1x64 : Shape := ⟨4, ![1, 1, 1, 64]⟩
abbrev S4x64x64x448 : Shape := ⟨4, ![4, 64, 64, 448]⟩
abbrev S4x64x64x512 : Shape := ⟨4, ![4, 64, 64, 512]⟩
abbrev S1x1x1x512 : Shape := ⟨4, ![1, 1, 1, 512]⟩
abbrev S4x64x64x256 : Shape := ⟨4, ![4, 64, 64, 256]⟩
abbrev S1x1x1x256 : Shape := ⟨4, ![1, 1, 1, 256]⟩
abbrev S16384x256 : Shape := ⟨2, ![16384, 256]⟩

abbrev nBuf : Space → Nat
  | .hbm => 98
  | .vmem => 0
  | .smem => 0
  | _ => 0

abbrev bufTy : (tb : Table) → Fin (tcTables nBuf tb) → BufTy
  | .hbm, ⟨0, _⟩ => ⟨S4x64x64x384, .f32⟩
  | .hbm, ⟨1, _⟩ => ⟨S48x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S448x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S4x64x64x64, .f32⟩
  | .hbm, ⟨14, _⟩ => ⟨S4x64x64x16, .f32⟩
  | .hbm, ⟨15, _⟩ => ⟨S4x64x64x16, .i32⟩
  | .hbm, ⟨16, _⟩ => ⟨S8, .i32⟩
  | .hbm, ⟨17, _⟩ => ⟨S8x1, .i32⟩
  | .hbm, ⟨18, _⟩ => ⟨S8x1x8, .i32⟩
  | .hbm, ⟨19, _⟩ => ⟨S8x8, .i32⟩
  | .hbm, ⟨20, _⟩ => ⟨S8, .i32⟩
  | .hbm, ⟨21, _⟩ => ⟨S1x8, .i32⟩
  | .hbm, ⟨22, _⟩ => ⟨S1x8x8, .i32⟩
  | .hbm, ⟨23, _⟩ => ⟨S8x8, .i32⟩
  | .hbm, ⟨24, _⟩ => ⟨S8x8x1, .i32⟩
  | .hbm, ⟨25, _⟩ => ⟨S8x8x1, .i32⟩
  | .hbm, ⟨26, _⟩ => ⟨S8x8x2, .i32⟩
  | .hbm, ⟨27, _⟩ => ⟨S8x8x2, .f32⟩
  | .hbm, ⟨28, _⟩ => ⟨S_, .f32⟩
  | .hbm, ⟨29, _⟩ => ⟨S8x8x2, .f32⟩
  | .hbm, ⟨30, _⟩ => ⟨S8x8x2, .f32⟩
  | .hbm, ⟨31, _⟩ => ⟨S64x2, .f32⟩
  | .hbm, ⟨32, _⟩ => ⟨S1x1x64x1x2, .f32⟩
  | .hbm, ⟨33, _⟩ => ⟨S_, .i32⟩
  | .hbm, ⟨34, _⟩ => ⟨S4x64x64x16, .i32⟩
  | .hbm, ⟨35, _⟩ => ⟨S4x64x64x16, .i1⟩
  | .hbm, ⟨36, _⟩ => ⟨S_, .i32⟩
  | .hbm, ⟨37, _⟩ => ⟨S4x64x64x16, .i32⟩
  | .hbm, ⟨38, _⟩ => ⟨S4x64x64x16, .i32⟩
  | .hbm, ⟨39, _⟩ => ⟨S4x64x64x16, .i32⟩
  | .hbm, ⟨40, _⟩ => ⟨S4x64x64x16x1, .i32⟩
  | .hbm, ⟨41, _⟩ => ⟨S1, .i32⟩
  | .hbm, ⟨42, _⟩ => ⟨S_, .i32⟩
  | .hbm, ⟨43, _⟩ => ⟨S4x64x64x16x1, .i32⟩
  | .hbm, ⟨44, _⟩ => ⟨S4x64x64x16x1, .i1⟩
  | .hbm, ⟨45, _⟩ => ⟨S1x1x1x1x1, .i32⟩
  | .hbm, ⟨46, _⟩ => ⟨S4x64x64x16x1, .i32⟩
  | .hbm, ⟨47, _⟩ => ⟨S4x64x64x16x1, .i1⟩
  | .hbm, ⟨48, _⟩ => ⟨S4x64x64x16x1, .i1⟩
  | .hbm, ⟨49, _⟩ => ⟨S_, .i1⟩
  | .hbm, ⟨50, _⟩ => ⟨S4x64x64x16, .i1⟩
  | .hbm, ⟨51, _⟩ => ⟨S4x64x64x16x2, .f32⟩
  | .hbm, ⟨52, _⟩ => ⟨S4x64x64x16x2, .i1⟩
  | .hbm, ⟨53, _⟩ => ⟨S_, .f32⟩
  | .hbm, ⟨54, _⟩ => ⟨S4x64x64x16x2, .f32⟩
  | .hbm, ⟨55, _⟩ => ⟨S4x64x64x16x2, .f32⟩
  | .hbm, ⟨56, _⟩ => ⟨S4x64x64x16x2, .f32⟩
  | .hbm, ⟨57, _⟩ => ⟨S4x64x64x16x2, .f32⟩
  | .hbm, ⟨58, _⟩ => ⟨S4x64x64x32, .f32⟩
  | .hbm, ⟨59, _⟩ => ⟨S4x64x64x48, .f32⟩
  | .hbm, ⟨60, _⟩ => ⟨S4x64x64x128, .f32⟩
  | .hbm, ⟨61, _⟩ => ⟨S1x1x1x128, .f32⟩
  | .hbm, ⟨62, _⟩ => ⟨S4x64x64x128, .f32⟩
  | .hbm, ⟨63, _⟩ => ⟨S4x64x64x128, .f32⟩
  | .hbm, ⟨64, _⟩ => ⟨S_, .f32⟩
  | .hbm, ⟨65, _⟩ => ⟨S4x64x64x128, .f32⟩
  | .hbm, ⟨66, _⟩ => ⟨S4x64x64x128, .f32⟩
  | .hbm, ⟨67, _⟩ => ⟨S4x64x64x128, .f32⟩
  | .hbm, ⟨68, _⟩ => ⟨S1x1x1x128, .f32⟩
  | .hbm, ⟨69, _⟩ => ⟨S4x64x64x128, .f32⟩
  | .hbm, ⟨70, _⟩ => ⟨S4x64x64x128, .f32⟩
  | .hbm, ⟨71, _⟩ => ⟨S_, .f32⟩
  | .hbm, ⟨72, _⟩ => ⟨S4x64x64x128, .f32⟩
  | .hbm, ⟨73, _⟩ => ⟨S4x64x64x128, .f32⟩
  | .hbm, ⟨74, _⟩ => ⟨S4x64x64x64, .f32⟩
  | .hbm, ⟨75, _⟩ => ⟨S1x1x1x64, .f32⟩
  | .hbm, ⟨76, _⟩ => ⟨S4x64x64x64, .f32⟩
  | .hbm, ⟨77, _⟩ => ⟨S4x64x64x64, .f32⟩
  | .hbm, ⟨78, _⟩ => ⟨S4x64x64x448, .f32⟩
  | .hbm, ⟨79, _⟩ => ⟨S4x64x64x512, .f32⟩
  | .hbm, ⟨80, _⟩ => ⟨S1x1x1x512, .f32⟩
  | .hbm, ⟨81, _⟩ => ⟨S4x64x64x512, .f32⟩
  | .hbm, ⟨82, _⟩ => ⟨S4x64x64x512, .f32⟩
  | .hbm, ⟨83, _⟩ => ⟨S_, .f32⟩
  | .hbm, ⟨84, _⟩ => ⟨S4x64x64x512, .f32⟩
  | .hbm, ⟨85, _⟩ => ⟨S4x64x64x512, .f32⟩
  | .hbm, ⟨86, _⟩ => ⟨S4x64x64x512, .f32⟩
  | .hbm, ⟨87, _⟩ => ⟨S1x1x1x512, .f32⟩
  | .hbm, ⟨88, _⟩ => ⟨S4x64x64x512, .f32⟩
  | .hbm, ⟨89, _⟩ => ⟨S4x64x64x512, .f32⟩
  | .hbm, ⟨90, _⟩ => ⟨S_, .f32⟩
  | .hbm, ⟨91, _⟩ => ⟨S4x64x64x512, .f32⟩
  | .hbm, ⟨92, _⟩ => ⟨S4x64x64x512, .f32⟩
  | .hbm, ⟨93, _⟩ => ⟨S4x64x64x256, .f32⟩
  | .hbm, ⟨94, _⟩ => ⟨S1x1x1x256, .f32⟩
  | .hbm, ⟨95, _⟩ => ⟨S4x64x64x256, .f32⟩
  | .hbm, ⟨96, _⟩ => ⟨S4x64x64x256, .f32⟩
  | .hbm, ⟨97, _⟩ => ⟨S16384x256, .f32⟩
  | _, _ => ⟨S4x64x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_values : Ref sig .tc := ⟨.hbm, 14, rfl⟩
abbrev main_indices : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call1_cst : Ref sig .tc := ⟨.hbm, 64, rfl⟩
abbrev main_call1_v0 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_call2_cst : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call3_cst : Ref sig .tc := ⟨.hbm, 83, rfl⟩
abbrev main_call3_v0 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_call4_cst : Ref sig .tc := ⟨.hbm, 90, rfl⟩
abbrev main_call4_v0 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩

abbrev nD : Nat := 1
abbrev τ : Topo := Topo.v7x

variable {F : FTy → Type} [FloatOps F]
-- ==== Proof.Rounds.lean ====
/- One query's scores as a column of 64 extended reals: the order in which a stable sort lists them from the
   greatest down, and the rounds that take the greatest score and strike it out. While the scores that the
   sort lists first are different, round `k` finds the score, and the place, that the sort lists at `k`. -/
module

public import Idealize.ShloMosaic.Lib.SortFacts
public import Idealize.ShloMosaic.Lib.Pointwise

@[expose] public section

noncomputable section

namespace Cert.Neighbours

open Idealize.ShloMosaic

/-- The place of the `k`-th greatest score, equal scores in the order of their places. -/
def place (f : Fin 64 → EReal) (k : Fin 64) : Fin 64 :=
  sortedFrom (fun a b => Ideal.cmp .ogt (f a) (f b) == 1#1) k

/-- The greatest score of a column. -/
def peak (f : Fin 64 → EReal) : EReal := Finset.univ.fold max ⊥ f

/-- The column with its greatest score struck out, wherever it stands. -/
def strike (f : Fin 64 → EReal) (q : Fin 64) : EReal := if f q = peak f then ⊥ else f q

/-- What is left of the column after `k` rounds. -/
def left (f : Fin 64 → EReal) : ℕ → Fin 64 → EReal
  | 0 => f
  | k + 1 => strike (left f k)

/-- The sixteen greatest scores are each strictly above the next one in the sort's order. -/
def Distinct (f : Fin 64 → EReal) : Prop :=
  ∀ k : Fin 16, f (place f ⟨k.val + 1, by omega⟩) < f (place f ⟨k.val, by omega⟩)

/-- The comparison's word says whether the second number is below the first. -/
theorem cmp_ogt (x y : EReal) : (Ideal.cmp .ogt x y == 1#1) = decide (y < x) := by
  by_cases h : y < x <;> simp [Ideal.cmp, h]

/-- A score listed later is at most one listed earlier. -/
theorem place_antitone (f : Fin 64 → EReal) (i j : Fin 64) (h : i ≤ j) : f (place f j) ≤ f (place f i) := by
  rcases h.eq_or_lt with rfl | h
  · exact le_rfl
  have := sortedFrom_noInversion (fun a b => Ideal.cmp .ogt (f a) (f b) == 1#1)
    (fun a b => Ideal.cmp .ogt (f a) (f b) == 1#1)
    (fun a b hab => by
      simp only [cmp_ogt, decide_eq_true_eq, decide_eq_false_iff_not, not_lt] at hab ⊢; exact hab.le)
    (fun _ _ h => h)
    (fun a b c hab hbc => by
      simp only [cmp_ogt, decide_eq_false_iff_not, not_lt] at hab hbc ⊢; exact hab.trans hbc) i j h
  simpa only [cmp_ogt, decide_eq_false_iff_not, not_lt, place] using this

theorem place_injective (f : Fin 64 → EReal) : Function.Injective (place f) := sortedFrom_injective _

/-- Every place is listed. -/
theorem place_surjective (f : Fin 64 → EReal) : Function.Surjective (place f) := sortedFrom_surjective _

/-- No score is above the greatest. -/
theorem le_peak (f : Fin 64 → EReal) (q : Fin 64) : f q ≤ peak f :=
  Finset.le_fold_max _ |>.2 (.inr ⟨q, Finset.mem_univ q, le_rfl⟩)

theorem peak_eq (f : Fin 64 → EReal) (q : Fin 64) (h : ∀ q', f q' ≤ f q) : peak f = f q :=
  le_antisymm (Finset.fold_max_le _ |>.2 ⟨bot_le, fun x _ => h x⟩) (le_peak f q)

variable {f : Fin 64 → EReal}

/-- Strictness along the whole list: of two listings, the earlier among the first sixteen, the scores differ. -/
theorem place_strict (hf : Distinct f) (i j : Fin 64) (hi : i.val < 16) (hij : i < j) :
    f (place f j) < f (place f i) := by
  have h1 := hf ⟨i.val, hi⟩
  have h2 := place_antitone f ⟨i.val + 1, by omega⟩ j (by
    rw [Fin.le_def]; exact hij)
  exact lt_of_le_of_lt h2 h1

/-- After `k` rounds the first `k` places of the list are struck out and every other score stands. -/
theorem left_place (hf : Distinct f) (k : ℕ) (hk : k ≤ 16) (j : Fin 64) :
    left f k (place f j) = if j.val < k then ⊥ else f (place f j) := by
  induction k generalizing j with
  | zero => simp [left]
  | succ k ih =>
    have ih := ih (by omega)
    have hp : peak (left f k) = f (place f ⟨k, by omega⟩) := by
      have e := ih ⟨k, by omega⟩
      rw [if_neg (by simp)] at e
      rw [← e]
      refine peak_eq _ _ fun q => ?_
      obtain ⟨i, rfl⟩ := place_surjective f q
      rw [e, ih i]
      split
      · exact bot_le
      · exact place_antitone f _ _ (by rw [Fin.le_def]; simp; omega)
    show (if left f k (place f j) = peak (left f k) then ⊥ else left f k (place f j)) = _
    rw [hp, ih j]
    rcases lt_trichotomy j.val k with h | h | h
    · rw [if_pos h, if_pos (show j.val < k + 1 by omega)]; split <;> rfl
    · have hj : j = ⟨k, by omega⟩ := Fin.ext h
      rw [if_neg (show ¬ j.val < k by omega), if_pos (show j.val < k + 1 by omega), if_pos (by rw [hj])]
    · rw [if_neg (show ¬ j.val < k by omega), if_neg (show ¬ j.val < k + 1 by omega), if_neg]
      exact ne_of_lt (place_strict hf ⟨k, by omega⟩ j (by simp; omega) (by rw [Fin.lt_def]; exact h))

/-- Round `k` finds the `k`-th greatest score. -/
theorem peak_left (hf : Distinct f) (k : Fin 16) :
    peak (left f k.val) = f (place f ⟨k.val, by omega⟩) := by
  have e := left_place hf k.val (by omega) ⟨k.val, by omega⟩
  rw [if_neg (by simp)] at e
  rw [← e]
  refine peak_eq _ _ fun q => ?_
  obtain ⟨i, rfl⟩ := place_surjective f q
  rw [e, left_place hf k.val (by omega) i]
  split
  · exact bot_le
  · exact place_antitone f _ _ (by rw [Fin.le_def]; simp; omega)

/-- Round `k` finds it at one place, the `k`-th of the list. -/
theorem left_eq_peak_iff (hf : Distinct f) (k : Fin 16) (q : Fin 64) :
    left f k.val q = peak (left f k.val) ↔ q = place f ⟨k.val, by omega⟩ := by
  rw [peak_left hf k]
  obtain ⟨i, rfl⟩ := place_surjective f q
  rw [left_place hf k.val (by omega) i, (place_injective f).eq_iff]
  rcases lt_trichotomy i.val k.val with h | h | h
  · rw [if_pos h]
    refine ⟨fun e => ?_, fun e => absurd (congrArg Fin.val e) (by simp; omega)⟩
    have := place_strict hf ⟨k.val, by omega⟩ ⟨k.val + 1, by omega⟩ k.isLt (by simp [Fin.lt_def])
    rw [← e] at this
    exact absurd this not_lt_bot
  · have hi : i = ⟨k.val, by omega⟩ := Fin.ext h
    rw [if_neg (by omega), hi]; simp
  · rw [if_neg (by omega)]
    refine ⟨fun e => ?_, fun e => absurd (congrArg Fin.val e) (by simp; omega)⟩
    exact absurd e (ne_of_lt (place_strict hf ⟨k.val, by omega⟩ i k.isLt (by rw [Fin.lt_def]; exact h)))

theorem sitofp_nat (φ : FTy) (n : Nat) (h : n < 64) :
    FloatOps.sitofp (F := Ideal) φ (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

end Cert.Neighbours

end
-- ==== Proof.Network.lean ====
/- The network of the problem for one query point, as plain sums over the extended reals. -/
module

public import proofs.«01_k».proof.Proof.Rounds

@[expose] public section

noncomputable section

namespace Cert.Neighbours

open Idealize.ShloMosaic

/-- A dense layer: weights and a bias. -/
def lin {n m : ℕ} (v : Fin n → EReal) (W : (⟨2, ![n, m]⟩ : Shape).Idx → EReal) (b : (⟨1, ![m]⟩ : Shape).Idx → EReal)
    (j : Fin m) : EReal := (∑ i : Fin n, v i * W (ix2 i j)) + b (ix1 j)

/-- The positive part of every entry. -/
def relu {n : ℕ} (v : Fin n → EReal) (j : Fin n) : EReal := max (v j) 0

/-- A point's row (`h = 0`) or column (`h = 1`) in the 8 × 8 grid. -/
def coord (h p : ℕ) : ℕ := if h = 0 then p / 8 else p % 8

/-- How far point `p` stands from point `n` along axis `h`, in units of the grid's width. -/
def offset (h p n : ℕ) : EReal := ((((coord h p : ℝ) - (coord h n : ℝ)) / 7 : ℝ) : EReal)

/-- The features of query `p`: its sixteen scores, then the offsets to the sixteen places. -/
def features (v : Fin 16 → EReal) (p : Fin 64) (n : Fin 16 → Fin 64) (i : Fin 48) : EReal :=
  if h : i.val < 16 then v ⟨i.val, h⟩ else offset ((i.val - 16) % 2) p.val (n ⟨(i.val - 16) / 2, by omega⟩).val

/-- A point's channels followed by its spatial features. -/
def joined (x : Fin 384 → EReal) (s : Fin 64 → EReal) (i : Fin 448) : EReal :=
  if h : i.val < 384 then x ⟨i.val, h⟩ else s ⟨i.val - 384, by omega⟩

/-- The scores of query `p` of a window against the window's 64 points. -/
def cand (x : (⟨4, ![4, 64, 64, 384]⟩ : Shape).Idx → EReal) (b : Fin 4) (w p : Fin 64) (q : Fin 64) : EReal :=
  ∑ c : Fin 384, x (ix4 b w q c) * x (ix4 b w p c)

/-- The sixteen greatest of a column of scores, and their places. -/
def topScores (f : Fin 64 → EReal) (k : Fin 16) : EReal := f (place f ⟨k.val, by omega⟩)
def topPlaces (f : Fin 64 → EReal) (k : Fin 16) : Fin 64 := place f ⟨k.val, by omega⟩

/-- The problem's answer at point `p` of window `w` of batch entry `b`, channel `j`. -/
def answer (x : (⟨4, ![4, 64, 64, 384]⟩ : Shape).Idx → EReal)
    (sW1 : (⟨2, ![48, 128]⟩ : Shape).Idx → EReal) (sb1 : (⟨1, ![128]⟩ : Shape).Idx → EReal)
    (sW2 : (⟨2, ![128, 128]⟩ : Shape).Idx → EReal) (sb2 : (⟨1, ![128]⟩ : Shape).Idx → EReal)
    (sWo : (⟨2, ![128, 64]⟩ : Shape).Idx → EReal) (sbo : (⟨1, ![64]⟩ : Shape).Idx → EReal)
    (oW1 : (⟨2, ![448, 512]⟩ : Shape).Idx → EReal) (ob1 : (⟨1, ![512]⟩ : Shape).Idx → EReal)
    (oW2 : (⟨2, ![512, 512]⟩ : Shape).Idx → EReal) (ob2 : (⟨1, ![512]⟩ : Shape).Idx → EReal)
    (oWo : (⟨2, ![512, 256]⟩ : Shape).Idx → EReal) (obo : (⟨1, ![256]⟩ : Shape).Idx → EReal)
    (b : Fin 4) (w p : Fin 64) (j : Fin 256) : EReal :=
  lin (relu (lin (relu (lin (joined (fun c => x (ix4 b w p c))
    (lin (relu (lin (relu (lin (features (topScores (cand x b w p)) p (topPlaces (cand x b w p))) sW1 sb1)) sW2 sb2)) sWo sbo))
    oW1 ob1)) oW2 ob2)) oWo obo j

/-- The batch entry, the window and the point a row of the result belongs to. -/
def batch (R : Fin 16384) : Fin 4 := ⟨R.val / 4096, by omega⟩
def slot (R : Fin 16384) : Fin 64 := ⟨R.val / 64 % 64, by omega⟩
def point (R : Fin 16384) : Fin 64 := ⟨R.val % 64, by omega⟩

end Cert.Neighbours

end
-- ==== Proof.Block.lean ====
/- What one grid step of the kernel computes, as a few named stages: the 64 windows' score blocks side by side,
   the sixteen rounds of taking the greatest score of every column and striking it out, and the network that
   follows. `out0_13_eq` states the step's result through these stages. -/
module

public import proofs.«01_k».proof.Proof.Gen.KernelIdeal.Frame

@[expose] public section

set_option maxRecDepth 16384

noncomputable section

namespace Cert.KernelIdeal.Block

open Cert.KernelIdeal Cert.KernelIdeal.Gen Cert.KernelIdeal.Facts Idealize.ShloMosaic

variable {F : FTy → Type} [FloatOps F] [Named F]

/-- The rectangle that holds window `g` of the 64 windows a grid step is given. -/
theorem inb_window (g : Fin 64) : ∀ a, (![g.val, 0, 0] : Fin 3 → Nat) a + S1x64x384.size a ≤ S64x64x384.size a := by
  have := g.isLt
  intro a
  fin_cases a
  · show g.val + 1 ≤ 64; omega
  · show 0 + 64 ≤ 64; omega
  · show 0 + 384 ≤ 384; omega

/-- The points of window `g`: 64 rows of 384 channels. -/
def window (x : Vec F S64x64x384 .f32) (g : Fin 64) : FVec F S64x384 .f32 :=
  shapeCast S64x384 (View.ld x (Rect.unit (s := S64x64x384) ![g.val, 0, 0] S1x64x384.size (inb_window g)))
    shapeCasts_S1x64x384_S64x384

/-- The scores within window `g`: the products of its points with one another. -/
def gram (x : Vec F S64x64x384 .f32) (g : Fin 64) : FVec F S64x64 .f32 :=
  matmul dot_S64x384_S64x384_S64x64_1_1_0_0_n_n none (window x g) (window x g) (constant S64x64 .f32 0x00000000#32)

/-- The score blocks of all windows side by side: a column for every query, a row for every candidate. -/
def scores (x : Vec F S64x64x384 .f32) : FVec F S64x4096 .f32 :=
  concatenate S64x4096 1 (List.ofFn fun g : Fin 64 => (⟨S64x64, gram x g⟩ : (s : Shape) × (s.Idx → F .f32)))
    concatenates_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x4096_d1

/-- The greatest score of every column. -/
def colMax (s : FVec F S64x4096 .f32) : FVec F S1x4096 .f32 :=
  shapeCast S1x4096 (multiReduction .maximumf [0] S4096 s 0xFF800000#32 reduces_S64x4096_S4096 (.inl rfl) rfl)
    shapeCasts_S4096_S1x4096

/-- Where a column's score is the greatest of the column. -/
def hit (s : FVec F S64x4096 .f32) : IVec S64x4096 1 :=
  cmpf .oeq s (broadcastTo S64x4096 (colMax s) broadcasts_S1x4096_S64x4096)

/-- The same as ones and zeros. -/
def mask (s : FVec F S64x4096 .f32) : FVec F S64x4096 .bf16 :=
  truncf .bf16 (sitofp .f32 (extui 32 (hit s) natLt_1_32)) bitsLt_bf16_f32

/-- Every column with its greatest score struck out. -/
def next (s : FVec F S64x4096 .f32) : FVec F S64x4096 .f32 :=
  select (hit s) (broadcast S64x4096 (Scalar.ofBits .f32 0xFF800000#32)) s

/-- The columns after `k` rounds. -/
def after (s : FVec F S64x4096 .f32) : ℕ → FVec F S64x4096 .f32
  | 0 => s
  | k + 1 => next (after s k)

/-- The sixteen rounds' greatest scores, a row for every round. -/
def best (s : FVec F S64x4096 .f32) : FVec F S16x4096 .f32 :=
  concatenate S16x4096 0 (List.ofFn fun k : Fin 16 => (⟨S1x4096, colMax (after s k.val)⟩ : (s : Shape) × (s.Idx → F .f32)))
    concatenates_S1x4096_S1x4096_S1x4096_S1x4096_S1x4096_S1x4096_S1x4096_S1x4096_S1x4096_S1x4096_S1x4096_S1x4096_S1x4096_S1x4096_S1x4096_S1x4096_S16x4096_d0

/-- The sixteen rounds' masks, one above the other. -/
def masks (s : FVec F S64x4096 .f32) : FVec F S1024x4096 .bf16 :=
  concatenate S1024x4096 0 (List.ofFn fun k : Fin 16 => (⟨S64x4096, mask (after s k.val)⟩ : (s : Shape) × (s.Idx → F .bf16)))
    concatenates_S64x4096_S64x4096_S64x4096_S64x4096_S64x4096_S64x4096_S64x4096_S64x4096_S64x4096_S64x4096_S64x4096_S64x4096_S64x4096_S64x4096_S64x4096_S64x4096_S1024x4096_d0

/-- The number of the place that each round's mask marks, a row for every round: the masks' product with a table
    that numbers the places. -/
def places (s : FVec F S64x4096 .f32) : FVec F S16x4096 .f32 :=
  k0_pay130 (mask (after s 0)) (mask (after s 1)) (mask (after s 2)) (mask (after s 3)) (mask (after s 4))
    (mask (after s 5)) (mask (after s 6)) (mask (after s 7)) (mask (after s 8)) (mask (after s 9)) (mask (after s 10))
    (mask (after s 11)) (mask (after s 12)) (mask (after s 13)) (mask (after s 14)) (mask (after s 15))
    (iota .tc S16x1024 32 [1] iota_S16x1024_d1_w32) k0_pay129 64#32 0#32

/-- The network's hidden layers on the features made of the scores `v` and the places `n`. -/
def hidden (v n : FVec F S16x4096 .f32) (x1 : Vec F S48x128 .f32) (x2 : Vec F S128x1 .f32) (x3 : Vec F S128x128 .f32)
    (x4 : Vec F S128x1 .f32) : FVec F S128x4096 .bf16 :=
  k0_pay135 v n (k0_pay132 (F := F)) (k0_pay133 (F := F)) (Scalar.ofBits .f32 0x3E000000#32) (View.ld x1 r0_64)
    (View.ld x2 r0_65) (View.ld x3 r0_66) (View.ld x4 r0_65)

/-- A grid step's result, through the stages. -/
theorem out0_13_eq (x0 : Vec F S64x64x384 .f32) (x1 : Vec F S48x128 .f32) (x2 : Vec F S128x1 .f32) (x3 : Vec F S128x128 .f32) (x4 : Vec F S128x1 .f32) (x5 : Vec F S128x64 .f32) (x6 : Vec F S64x1 .f32) (x7 : Vec F S448x512 .f32) (x8 : Vec F S1x512 .f32) (x9 : Vec F S512x512 .f32) (x10 : Vec F S1x512 .f32) (x11 : Vec F S512x256 .f32) (x12 : Vec F S1x256 .f32) :
    out0_13 x0 x1 x2 x3 x4 x5 x6 x7 x8 x9 x10 x11 x12 =
      View.canon [⟨r0_75, k0_pay1 (k0_pay136 (k0_pay134 (View.ld x5 r0_67))
        (hidden (best (scores x0)) (places (scores x0)) x1 x2 x3 x4)
        (View.ld x6 r0_68) (View.ld x0 r0_69) (View.ld x7 r0_70) (View.ld x8 r0_71) (View.ld x9 r0_72)
        (View.ld x10 r0_71) (View.ld x11 r0_73)) (k0_pay137 (View.ld x12 r0_74))⟩] := rfl

end Cert.KernelIdeal.Block

end
-- ==== Proof.Columns.lean ====
/- The kernel's rounds read column by column: every column of a grid step's score array goes through the rounds
   of `Rounds.lean`, so that while its greatest scores are different the rounds list its scores and their places
   from the greatest down. -/
module

public import proofs.«01_k».proof.Proof.Rounds
public import proofs.«01_k».proof.Proof.Block
public import Idealize.ShloMosaic.Lib.Pipeline.Value

@[expose] public section

set_option maxRecDepth 16384

noncomputable section

namespace Cert.KernelIdeal.Block

open Cert.KernelIdeal Cert.KernelIdeal.Gen Cert.KernelIdeal.Facts Idealize.ShloMosaic Cert.Neighbours

/-- Column `r` of a score array. -/
def col (s : FVec Ideal S64x4096 .f32) (r : Fin 4096) (q : Fin 64) : EReal := s (ix2 q r)

/-- The word of −∞ denotes −∞. -/
theorem neg_inf : Ideal.ofBits .f32 0xFF800000#32 = ⊥ := by
  simp only [Ideal.ofBits, Ideal.ieee]
  rw [if_pos (by decide), if_pos (by decide), if_pos (by decide)]

theorem window_apply (x : Vec Ideal S64x64x384 .f32) (g q : Fin 64) (c : Fin 384) :
    window x g (ix2 q c) = x (ix3 g q c) := by
  have h := shapeCast_apply (View.ld x (Rect.unit (s := S64x64x384) ![g.val, 0, 0] S1x64x384.size (inb_window g)))
    shapeCasts_S1x64x384_S64x384 (ix2 q c) (ix3 0 q c) (by
      rw [Shape.rowMajor_val_three, Shape.rowMajor_val_two]
      show (0 * 64 + q.val) * 384 + c.val = q.val * 384 + c.val
      omega)
  refine h.trans (congrArg x (funext fun a => Fin.ext ?_))
  fin_cases a
  · show g.val + 1 * 0 = g.val; omega
  · show 0 + 1 * q.val = q.val; omega
  · show 0 + 1 * c.val = c.val; omega

theorem gram_apply (x : Vec Ideal S64x64x384 .f32) (g q p : Fin 64) :
    gram x g (ix2 q p) = ∑ c : Fin 384, x (ix3 g q c) * x (ix3 g p c) := by
  unfold gram
  pointwise [window_apply]

theorem colMax_apply (s : FVec Ideal S64x4096 .f32) (r : Fin 4096) :
    colMax s (ix2 0 r) = peak (col s r) := by
  unfold colMax
  pointwise
  rfl

theorem hit_apply (s : FVec Ideal S64x4096 .f32) (q : Fin 64) (r : Fin 4096) :
    hit s (ix2 q r) = BitVec.ofBool (decide (col s r q = peak (col s r))) := by
  unfold hit
  pointwise [colMax_apply]
  rfl

theorem mask_apply (s : FVec Ideal S64x4096 .f32) (q : Fin 64) (r : Fin 4096) :
    mask s (ix2 q r) = if col s r q = peak (col s r) then 1 else 0 := by
  unfold mask
  pointwise [hit_apply]
  by_cases h : col s r q = peak (col s r)
  · rw [if_pos h, decide_eq_true h]
    show (((1#32 : BitVec 32).toInt : ℝ) : EReal) = 1
    norm_num
  · rw [if_neg h, decide_eq_false h]
    show (((0#32 : BitVec 32).toInt : ℝ) : EReal) = 0
    norm_num

theorem next_apply (s : FVec Ideal S64x4096 .f32) (q : Fin 64) (r : Fin 4096) :
    next s (ix2 q r) = strike (col s r) q := by
  unfold next
  pointwise [hit_apply]
  rw [neg_inf]
  rfl

theorem col_after (s : FVec Ideal S64x4096 .f32) (r : Fin 4096) (k : ℕ) : col (after s k) r = left (col s r) k := by
  induction k with
  | zero => rfl
  | succ k ih =>
    funext q
    show next (after s k) (ix2 q r) = strike (left (col s r) k) q
    rw [next_apply, ih]

/-- The window and the point within it that column `r` of a grid step's arrays belongs to. -/
def win (r : Fin 4096) : Fin 64 := ⟨r.val / 64, by omega⟩
def pt (r : Fin 4096) : Fin 64 := ⟨r.val % 64, by omega⟩

/-- Column `r` of the score array: the products of the window's points with the column's query point. -/
theorem scores_apply (x : Vec Ideal S64x64x384 .f32) (q : Fin 64) (r : Fin 4096) :
    scores x (ix2 q r) = ∑ c : Fin 384, x (ix3 (win r) q c) * x (ix3 (win r) (pt r) c) := by
  rw [← gram_apply]
  unfold scores
  refine concatenate_ofFn_apply (t := S64x4096) (s₁ := S64x64) 1 (fun g => gram x g) _ rfl 64 rfl (ix2 q r) (win r) rfl
    (ix2 q (pt r)) rfl ?_
  intro b hb
  fin_cases b
  · rfl
  · exact absurd rfl hb

/-- Row `k` of the collected scores: round `k`'s greatest of every column. -/
theorem best_apply (s : FVec Ideal S64x4096 .f32) (k : Fin 16) (r : Fin 4096) :
    best s (ix2 k r) = peak (left (col s r) k.val) := by
  rw [← col_after, ← colMax_apply]
  unfold best
  refine concatenate_ofFn_apply (t := S16x4096) (s₁ := S1x4096) 0 (fun k : Fin 16 => colMax (after s k.val)) _ rfl 1 rfl
    (ix2 k r) k (Nat.div_one _) (ix2 0 r) (Nat.mod_one _).symm ?_
  intro b hb
  fin_cases b
  · exact absurd rfl hb
  · rfl

/-- Row `c` of the masks: round `c / 64`, place `c % 64`. -/
theorem masks_apply (s : FVec Ideal S64x4096 .f32) (c : Fin 1024) (r : Fin 4096) :
    masks s (ix2 c r) = mask (after s (c.val / 64)) (ix2 ⟨c.val % 64, by omega⟩ r) := by
  unfold masks
  refine concatenate_ofFn_apply (t := S1024x4096) (s₁ := S64x4096) 0 (fun k : Fin 16 => mask (after s k.val)) _ rfl 64 rfl
    (ix2 c r) ⟨c.val / 64, by omega⟩ rfl (ix2 ⟨c.val % 64, by omega⟩ r) rfl ?_
  intro b hb
  fin_cases b
  · exact absurd rfl hb
  · rfl

/-- The table that numbers the places of round `k`: `c % 64` where `c` belongs to round `k`, zero elsewhere. -/
def table : IVec S16x1024 32 :=
  have v364 : BitVec 32 := Scalar.select (Scalar.cmpi .eq 64#32 0#32) 1#32 64#32
  have v366 : IVec S16x1024 32 := remsi (iota .tc S16x1024 32 [1] iota_S16x1024_d1_w32) (broadcast S16x1024 v364)
  select k0_pay129
    (select (andi (xori (cmpi .slt v366 (broadcast S16x1024 0#32))
        (broadcastTo S16x1024 (broadcast S16x1024 (Scalar.cmpi .slt v364 0#32)) broadcasts_S16x1024_S16x1024))
        (cmpi .ne v366 (broadcast S16x1024 0#32)))
      (addi v366 (broadcast S16x1024 v364)) v366)
    (broadcast S16x1024 0#32)

theorem table_apply : ∀ (k : Fin 16) (c : Fin 1024),
    table (ix2 k c) = if c.val / 64 = k.val then BitVec.ofNat 32 (c.val % 64) else 0#32 := by
  intro k c
  unfold table
  pointwise [k0_pay129]
  revert k c
  decide +kernel

theorem places_eq (s : FVec Ideal S64x4096 .f32) :
    places s = matmul dot_S16x1024_S1024x4096_S16x4096_1_0_0_1_n_n none (sitofp .bf16 table) (masks s)
      (constant S16x4096 .f32 0x00000000#32) := rfl

/-- Row `k` of the places: the numbers of the places that round `k` marks, added up. -/
theorem places_apply (s : FVec Ideal S64x4096 .f32) (k : Fin 16) (r : Fin 4096) :
    places s (ix2 k r) = ∑ q : Fin 64, ((q.val : ℝ) : EReal) *
      (if left (col s r) k.val q = peak (left (col s r) k.val) then 1 else 0) := by
  rw [places_eq]
  pointwise [table_apply, masks_apply, mask_apply]
  rw [Fin.sum_univ_tiles 16 64 rfl, Finset.sum_eq_single k]
  · refine Finset.sum_congr rfl fun q _ => ?_
    have e1 : (k.val * 64 + q.val) / 64 = k.val := by omega
    have e2 : (k.val * 64 + q.val) % 64 = q.val := by omega
    simp only [e1, e2, if_true, col_after]
    rw [sitofp_nat _ _ q.isLt]
  · intro j _ hj
    refine Finset.sum_eq_zero fun q _ => ?_
    have e1 : (j.val * 64 + q.val) / 64 = j.val := by omega
    have hj' : ¬ j.val = k.val := fun e => hj (Fin.ext e)
    simp only [e1, hj', if_false]
    rw [show FloatOps.sitofp (F := Ideal) FTy.bf16 (0#32) = 0 from by
      show (((0#32 : BitVec 32).toInt : ℝ) : EReal) = 0
      norm_num]
    exact zero_mul _
  · exact fun h => absurd (Finset.mem_univ k) h

/-- Where a column's greatest scores are different, round `k` finds the `k`-th of them … -/
theorem best_of_distinct (s : FVec Ideal S64x4096 .f32) (k : Fin 16) (r : Fin 4096) (h : Distinct (col s r)) :
    best s (ix2 k r) = col s r (place (col s r) ⟨k.val, by omega⟩) := by
  rw [best_apply, peak_left h]

/-- … and its place. -/
theorem places_of_distinct (s : FVec Ideal S64x4096 .f32) (k : Fin 16) (r : Fin 4096) (h : Distinct (col s r)) :
    places s (ix2 k r) = (((place (col s r) ⟨k.val, by omega⟩).val : ℝ) : EReal) := by
  rw [places_apply, Finset.sum_eq_single (place (col s r) ⟨k.val, by omega⟩)]
  · rw [if_pos ((left_eq_peak_iff h k _).2 rfl), mul_one]
  · intro q _ hq
    rw [if_neg (fun e => hq ((left_eq_peak_iff h k q).1 e)), mul_zero]
  · exact fun h => absurd (Finset.mem_univ _) h

end Cert.KernelIdeal.Block

end
-- ==== Proof.Layers.lean ====
/- The network that a grid step runs on its columns, read at an index. -/
module

public import proofs.«01_k».proof.Proof.Network
public import proofs.«01_k».proof.Proof.Columns

@[expose] public section

set_option maxRecDepth 16384

noncomputable section

namespace Cert.KernelIdeal.Block

open Cert.KernelIdeal Cert.KernelIdeal.Gen Cert.KernelIdeal.Facts Idealize.ShloMosaic Cert.Neighbours

/-- The kernel's constant one eighth. -/
theorem eighth : Ideal.ofBits .f32 0x3E000000#32 = ((1 / 8 : ℝ) : EReal) := by
  simp [Ideal.ofBits, Ideal.ieee, -EReal.coe_mul]; norm_num

theorem eight : Ideal.ofBits .f32 0x41000000#32 = ((8 : ℝ) : EReal) := by
  simp [Ideal.ofBits, Ideal.ieee, -EReal.coe_mul]; norm_num

/-- The kernel's named constant is one seventh. -/
theorem seventh : Named.named (F := Ideal) κ "seventh" (φ := .f32) 0x3E124925#32 = ((1 / 7 : ℝ) : EReal) :=
  IdealRules.named_const.ideal_named_scalar _ _ _ _ rfl

/-- An eighth of a number, rounded down, is its quotient by eight … -/
theorem floor_eighth (n : ℕ) :
    Ideal.liftRound Int.floor (((n : ℝ) : EReal) * Ideal.ofBits .f32 0x3E000000#32) = (((n / 8 : ℕ) : ℝ) : EReal) := by
  rw [eighth, ← EReal.coe_mul]
  show (((⌊(n : ℝ) * (1 / 8)⌋ : ℤ) : ℝ) : EReal) = _
  have h : ⌊(n : ℝ) * (1 / 8)⌋ = ((n / 8 : ℕ) : ℤ) := by
    rw [Int.floor_eq_iff]
    have h1 : 8 * (n / 8) ≤ n := Nat.mul_div_le n 8
    have h2 : n < 8 * (n / 8) + 8 := by omega
    have h1' : (8 : ℝ) * ((n / 8 : ℕ) : ℝ) ≤ n := by exact_mod_cast h1
    have h2' : (n : ℝ) < 8 * ((n / 8 : ℕ) : ℝ) + 8 := by exact_mod_cast h2
    constructor
    · show (((n / 8 : ℕ) : ℤ) : ℝ) ≤ _
      rw [Int.cast_natCast]; linarith
    · rw [Int.cast_natCast]; linarith
  rw [h, Int.cast_natCast]

/-- … and what is left is its remainder. -/
theorem rest_eighth (n : ℕ) :
    ((n : ℝ) : EReal) - Ideal.ofBits .f32 0x41000000#32 * (((n / 8 : ℕ) : ℝ) : EReal) = (((n % 8 : ℕ) : ℝ) : EReal) := by
  rw [eight, ← EReal.coe_mul, ← EReal.coe_sub]
  have h : n = 8 * (n / 8) + n % 8 := (Nat.div_add_mod n 8).symm
  have h' : (n : ℝ) = 8 * ((n / 8 : ℕ) : ℝ) + ((n % 8 : ℕ) : ℝ) := by exact_mod_cast h
  congr 1
  linarith

theorem pay131_apply (k : Fin 16) (r : Fin 4096) :
    k0_pay131 (F := Ideal) (ix2 k r) = (((pt r).val : ℝ) : EReal) := by
  pointwise [k0_pay131]
  refine (congrArg (FloatOps.sitofp (F := Ideal) .f32) (?_ : _ = BitVec.ofNat 32 (r.val % 64))).trans
    (sitofp_nat _ _ (by omega))
  revert r
  decide +kernel

theorem pay132_apply (k : Fin 16) (r : Fin 4096) :
    k0_pay132 (F := Ideal) (ix2 k r) = ((((pt r).val / 8 : ℕ) : ℝ) : EReal) := by
  pointwise [k0_pay132, pay131_apply]
  exact floor_eighth _

theorem pay133_apply (k : Fin 16) (r : Fin 4096) :
    k0_pay133 (F := Ideal) (ix2 k r) = ((((pt r).val % 8 : ℕ) : ℝ) : EReal) := by
  pointwise [k0_pay133, pay132_apply, pay131_apply]
  exact rest_eighth _

theorem offset_eq (h p n : ℕ) :
    (((coord h p : ℝ) : EReal) - ((coord h n : ℝ) : EReal)) * ((1 / 7 : ℝ) : EReal) = offset h p n := by
  rw [← EReal.coe_sub, ← EReal.coe_mul, offset, mul_one_div]

/-- The hidden layers of column `r`: two dense layers on the features made of its sixteen scores and places. -/
theorem hidden_apply (v n : FVec Ideal S16x4096 .f32) (x1 : Vec Ideal S48x128 .f32) (x2 : Vec Ideal S128x1 .f32)
    (x3 : Vec Ideal S128x128 .f32) (x4 : Vec Ideal S128x1 .f32) (b2 b4 : FVec Ideal S128 .f32) (r : Fin 4096)
    (vs : Fin 16 → EReal) (ns : Fin 16 → Fin 64) (hv : ∀ k, v (ix2 k r) = vs k)
    (hn : ∀ k, n (ix2 k r) = (((ns k).val : ℝ) : EReal)) (h2 : ∀ i, x2 (ix2 i 0) = b2 (ix1 i))
    (h4 : ∀ i, x4 (ix2 i 0) = b4 (ix1 i)) (i : Fin 128) :
    hidden v n x1 x2 x3 x4 (ix2 i r)
      = relu (lin (relu (lin (features vs (pt r) ns) x1 b2)) x3 b4) i := by
  unfold hidden
  pointwise [k0_pay135, pay132_apply, pay133_apply]
  unfold relu lin
  simp only [hv, hn, h2, h4, floor_eighth, rest_eighth, seventh]
  refine congrArg₂ max (congrArg (· + _) (Finset.sum_congr rfl fun a _ => ?_)) rfl
  rw [mul_comm]
  refine congrArg (· * _) (congrArg₂ max (congrArg (· + _) ?_) rfl)
  rw [Fin.sum_univ_two_halves 16 32 rfl]
  refine congrArg₂ (· + ·) (Finset.sum_congr rfl fun c _ => ?_) (Finset.sum_congr rfl fun c _ => ?_)
  · rw [mul_comm]
    exact congrArg (· * _) (by rw [features, dif_pos c.isLt])
  · rw [mul_comm]
    refine congrArg (· * _) ?_
    rw [features, dif_neg (show ¬ 16 + c.val < 16 by omega)]
    have e1 : 16 + c.val - 16 = c.val := by omega
    simp only [e1]
    rw [← offset_eq]
    by_cases h : c.val % 2 < 1
    · have h0 : c.val % 2 = 0 := by omega
      rw [dif_pos h]; simp only [coord, h0, if_true]
    · have h0 : ¬ c.val % 2 = 0 := by omega
      rw [dif_neg h]; simp only [coord, h0, if_false]

/-- The result of a grid step at a query and a channel: the output network on the query's channels and its spatial
    features. -/
theorem result_apply (hd : FVec Ideal S128x4096 .bf16) (x0 : Vec Ideal S64x64x384 .f32) (x5 : Vec Ideal S128x64 .f32) (x6 : Vec Ideal S64x1 .f32)
    (x7 : Vec Ideal S448x512 .f32) (x8 : Vec Ideal S1x512 .f32) (x9 : Vec Ideal S512x512 .f32) (x10 : Vec Ideal S1x512 .f32)
    (x11 : Vec Ideal S512x256 .f32) (x12 : Vec Ideal S1x256 .f32) (b6 : FVec Ideal S64 .f32) (b8 b10 : FVec Ideal S512 .f32) (b12 : FVec Ideal S256 .f32)
    (r : Fin 4096) (hs : Fin 128 → EReal) (hh : ∀ k, hd (ix2 k r) = hs k) (h6 : ∀ i, x6 (ix2 i 0) = b6 (ix1 i))
    (h8 : ∀ i, x8 (ix2 0 i) = b8 (ix1 i)) (h10 : ∀ i, x10 (ix2 0 i) = b10 (ix1 i)) (h12 : ∀ i, x12 (ix2 0 i) = b12 (ix1 i))
    (j : Fin 256) :
    k0_pay1 (k0_pay136 (k0_pay134 (View.ld x5 r0_67)) hd
        (View.ld x6 r0_68) (View.ld x0 r0_69) (View.ld x7 r0_70) (View.ld x8 r0_71) (View.ld x9 r0_72)
        (View.ld x10 r0_71) (View.ld x11 r0_73)) (k0_pay137 (View.ld x12 r0_74)) (ix2 r j)
      = lin (relu (lin (relu (lin (joined (fun c => x0 (ix3 (win r) (pt r) c)) (lin hs x5 b6)) x7 b8)) x9 b10)) x11 b12 j := by
  pointwise [k0_pay1, k0_pay134, k0_pay136, k0_pay137]
  simp only [hh, h6, h8, h10, h12]
  unfold relu lin
  refine congrArg (· + _) (Finset.sum_congr rfl fun a _ => congrArg (· * _) (congrArg₂ max (congrArg (· + _)
    (Finset.sum_congr rfl fun b _ => congrArg (· * _) (congrArg₂ max (congrArg (· + _) ?_) rfl))) rfl))
  rw [Fin.sum_univ_two_halves 384 64 rfl]
  refine congrArg₂ (· + ·) (Finset.sum_congr rfl fun c _ => ?_) (Finset.sum_congr rfl fun c _ => ?_)
  · refine congrArg (· * _) ?_
    rw [joined, dif_pos c.isLt]
    rfl
  · refine congrArg (· * _) ?_
    rw [joined, dif_neg (show ¬ 384 + c.val < 384 by omega)]
    have e : (⟨384 + c.val - 384, by omega⟩ : Fin 64) = c := Fin.ext (by show 384 + c.val - 384 = c.val; omega)
    rw [e]
    exact congrArg (· + _) (Finset.sum_congr rfl fun d _ => mul_comm _ _)

/-- A grid step whose input block is batch entry `b` leaves the problem's answers for that entry, at every query
    whose greatest scores are different. -/
theorem out0_13_apply (x0 : Vec Ideal S64x64x384 .f32) (x1 : Vec Ideal S48x128 .f32) (x2 : Vec Ideal S128x1 .f32)
    (x3 : Vec Ideal S128x128 .f32) (x4 : Vec Ideal S128x1 .f32) (x5 : Vec Ideal S128x64 .f32) (x6 : Vec Ideal S64x1 .f32)
    (x7 : Vec Ideal S448x512 .f32) (x8 : Vec Ideal S1x512 .f32) (x9 : Vec Ideal S512x512 .f32) (x10 : Vec Ideal S1x512 .f32)
    (x11 : Vec Ideal S512x256 .f32) (x12 : Vec Ideal S1x256 .f32) (X : FVec Ideal S4x64x64x384 .f32)
    (b2 b4 : FVec Ideal S128 .f32) (b6 : FVec Ideal S64 .f32) (b8 b10 : FVec Ideal S512 .f32) (b12 : FVec Ideal S256 .f32)
    (b : Fin 4) (h0 : ∀ g q c, x0 (ix3 g q c) = X (ix4 b g q c))
    (h2 : ∀ i, x2 (ix2 i 0) = b2 (ix1 i)) (h4 : ∀ i, x4 (ix2 i 0) = b4 (ix1 i)) (h6 : ∀ i, x6 (ix2 i 0) = b6 (ix1 i))
    (h8 : ∀ i, x8 (ix2 0 i) = b8 (ix1 i)) (h10 : ∀ i, x10 (ix2 0 i) = b10 (ix1 i)) (h12 : ∀ i, x12 (ix2 0 i) = b12 (ix1 i))
    (r : Fin 4096) (hd : Distinct (cand X b (win r) (pt r))) (j : Fin 256) :
    out0_13 x0 x1 x2 x3 x4 x5 x6 x7 x8 x9 x10 x11 x12 (ix2 r j)
      = answer X x1 b2 x3 b4 x5 b6 x7 b8 x9 b10 x11 b12 b (win r) (pt r) j := by
  have hc : col (scores x0) r = cand X b (win r) (pt r) := by
    funext q
    show scores x0 (ix2 q r) = _
    rw [scores_apply]
    simp only [h0, cand]
  have hd' : Distinct (col (scores x0) r) := hc ▸ hd
  have hz : (![0, 0] : Fin 2 → Nat) = fun _ => 0 := funext fun a => by fin_cases a <;> rfl
  rw [out0_13_eq, View.canon_unit_zero hz]
  rw [result_apply _ x0 x5 x6 x7 x8 x9 x10 x11 x12 b6 b8 b10 b12 r
    (relu (lin (relu (lin (features (topScores (col (scores x0) r)) (pt r) (topPlaces (col (scores x0) r))) x1 b2)) x3 b4))
    (fun k => hidden_apply _ _ x1 x2 x3 x4 b2 b4 r _ _ (fun k => best_of_distinct _ k r hd')
      (fun k => places_of_distinct _ k r hd') h2 h4 k) h6 h8 h10 h12 j]
  rw [hc]
  simp only [h0, answer]

end Cert.KernelIdeal.Block

end
-- ==== Proof.Array.lean ====
module

public import proofs.«01_k».proof.Proof.Layers
public import proofs.«01_k».proof.Proof.Gen.KernelIdeal.Value
public import Idealize.ShloMosaic.Lib.Pipeline.ValueKit
public import Idealize.ShloMosaic.Lib.Claim

/-!
What the kernel's output array holds after the whole grid.
-/

@[expose] public section

namespace Cert.KernelIdeal.Block

open Idealize.ShloMosaic Idealize.ShloMosaic.TcCoe Cert.KernelIdeal Cert.KernelIdeal.Gen Cert.Neighbours

variable (m : (ℓ : Loc nD τ sig) → Buf (Elt Ideal) ℓ) (c : Dev nD) (t : Fin cfg0.N)

/-- Step `t` reads block `t` of the input. -/
theorem index0 : ∀ t : Fin cfg0.N, win0_0.index t = ![t.val, 0, 0] := by decide +kernel
/-- Step `t` writes block `t` of the output. -/
theorem index13 : ∀ t : Fin cfg0.N, win0_13.index t = ![t.val, 0] := by decide +kernel

/-- The weights' and biases' blocks start at the arrays' corners at every step. -/
theorem index_whole : ∀ t : Fin cfg0.N,
    (win0_1.index t = ![0, 0] ∧ win0_2.index t = ![0, 0] ∧ win0_3.index t = ![0, 0] ∧ win0_4.index t = ![0, 0]
      ∧ win0_5.index t = ![0, 0] ∧ win0_6.index t = ![0, 0]) ∧
    (win0_7.index t = ![0, 0] ∧ win0_8.index t = ![0, 0] ∧ win0_9.index t = ![0, 0] ∧ win0_10.index t = ![0, 0]
      ∧ win0_11.index t = ![0, 0] ∧ win0_12.index t = ![0, 0]) := by decide +kernel

/-- The input block of grid step `t` is batch entry `t`. -/
theorem block_input (b : Fin 4) (hb : b.val = t.val) (g q : Fin 64) (k : Fin 384) :
    iblk m c 0 t (ix3 g q k) = m ((c : Thread nD τ).loc main_arg0) (ix4 b g q k) := by
  have e : ((View.whole main_v0).slice (win0_0.rect t)).emb (ix3 g q k)
      = ix3 (⟨64 * b.val + g.val, by omega⟩ : Fin 256) q k := by
    blk_ext [index0 t, hb]
  blk_simp [iblk, index0 t]
  entry_read
  rw [e]
  refine shapeCast_apply _ _ _ _ ?_
  refine (Shape.rowMajor_val_four (d := S4x64x64x384.size) _).trans (Eq.trans ?_ (Shape.rowMajor_val_three (d := S256x64x384.size) _).symm)
  show ((b.val * 64 + g.val) * 64 + q.val) * 384 + k.val = ((64 * b.val + g.val) * 64 + q.val) * 384 + k.val
  omega

/-- Every grid step reads each weight array whole. -/
theorem block_weights :
    iblk m c 1 t = m ((c : Thread nD τ).loc main_arg1) ∧ iblk m c 3 t = m ((c : Thread nD τ).loc main_arg3)
    ∧ iblk m c 5 t = m ((c : Thread nD τ).loc main_arg5) ∧ iblk m c 7 t = m ((c : Thread nD τ).loc main_arg7)
    ∧ iblk m c 9 t = m ((c : Thread nD τ).loc main_arg9) ∧ iblk m c 11 t = m ((c : Thread nD τ).loc main_arg11) := by
  obtain ⟨⟨h1, -, h3, -, h5, -⟩, ⟨h7, -, h9, -, h11, -⟩⟩ := index_whole t
  refine ⟨?_, ?_, ?_, ?_, ?_, ?_⟩ <;> (funext j; blk_ext [iblk, V, h1, h3, h5, h7, h9, h11])

/-- Every grid step reads the first three biases as columns. -/
theorem block_columns :
    (∀ i, iblk m c 2 t (ix2 i 0) = m ((c : Thread nD τ).loc main_arg2) (ix1 i))
    ∧ (∀ i, iblk m c 4 t (ix2 i 0) = m ((c : Thread nD τ).loc main_arg4) (ix1 i))
    ∧ (∀ i, iblk m c 6 t (ix2 i 0) = m ((c : Thread nD τ).loc main_arg6) (ix1 i)) := by
  obtain ⟨⟨-, h2, -, h4, -, h6⟩, -⟩ := index_whole t
  refine ⟨?_, ?_, ?_⟩ <;>
  · intro i
    blk_simp [iblk, h2, h4, h6]
    entry_read
    refine (congrArg (shapeCast _ _ _) (show _ = ix2 i 0 by blk_ext [h2, h4, h6])).trans ?_
    pointwise

/-- Every grid step reads the last three biases as rows. -/
theorem block_rows :
    (∀ i, iblk m c 8 t (ix2 0 i) = m ((c : Thread nD τ).loc main_arg8) (ix1 i))
    ∧ (∀ i, iblk m c 10 t (ix2 0 i) = m ((c : Thread nD τ).loc main_arg10) (ix1 i))
    ∧ (∀ i, iblk m c 12 t (ix2 0 i) = m ((c : Thread nD τ).loc main_arg12) (ix1 i)) := by
  obtain ⟨-, ⟨-, h8, -, h10, -, h12⟩⟩ := index_whole t
  refine ⟨?_, ?_, ?_⟩ <;>
  · intro i
    blk_simp [iblk, h8, h10, h12]
    entry_read
    refine (congrArg (shapeCast _ _ _) (show _ = ix2 0 i by blk_ext [h8, h10, h12])).trans ?_
    pointwise

/-- The answers as one array: row `4096 b + 64 w + p` holds point `p` of window `w` of batch entry `b`. -/
noncomputable def whole (a0 : FVec Ideal S4x64x64x384 .f32) (a1 : FVec Ideal S48x128 .f32) (a2 : FVec Ideal S128 .f32)
    (a3 : FVec Ideal S128x128 .f32) (a4 : FVec Ideal S128 .f32) (a5 : FVec Ideal S128x64 .f32) (a6 : FVec Ideal S64 .f32)
    (a7 : FVec Ideal S448x512 .f32) (a8 : FVec Ideal S512 .f32) (a9 : FVec Ideal S512x512 .f32) (a10 : FVec Ideal S512 .f32)
    (a11 : FVec Ideal S512x256 .f32) (a12 : FVec Ideal S256 .f32) (y : S16384x256.Idx) : EReal :=
  answer a0 a1 a2 a3 a4 a5 a6 a7 a8 a9 a10 a11 a12 (batch (y 0)) (slot (y 0)) (point (y 0)) (y 1)

/-- The kernel's output array holds the problem's answers, where every query's greatest scores are different. -/
theorem array_eq (hd : ∀ b w p, Distinct (cand (m ((c : Thread nD τ).loc main_arg0)) b w p)) :
    (dats m 0 c).arrAt 13 cfg0.N = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) := by
  refine (dats m 0 c).arrAt_eq_of_covers 13 _ (by decide +kernel) fun t hf y => ?_
  obtain ⟨w1, w3, w5, w7, w9, w11⟩ := block_weights m c t
  obtain ⟨c2, c4, c6⟩ := block_columns m c t
  obtain ⟨r8, r10, r12⟩ := block_rows m c t
  blk_simp
  rw [after0_13]
  revert y
  show ∀ y : S4096x256.Idx, _
  intro y
  obtain ⟨r, j, rfl⟩ : ∃ (r : Fin 4096) (j : Fin 256), y = ix2 r j := ⟨y 0, y 1, funext fun a => by fin_cases a <;> rfl⟩
  have ht : t.val < 4 := t.isLt
  have e : (win0_13.blk t).view.emb (ix2 r j) = ix2 (⟨4096 * t.val + r.val, by omega⟩ : Fin 16384) j := by
    blk_ext [index13 t]
  have eb : batch ⟨4096 * t.val + r.val, by omega⟩ = ⟨t.val, ht⟩ := Fin.ext (by simp only [batch]; omega)
  have es : slot ⟨4096 * t.val + r.val, by omega⟩ = win r := Fin.ext (by simp only [slot, win]; omega)
  have ep : point ⟨4096 * t.val + r.val, by omega⟩ = pt r := Fin.ext (by simp only [point, pt]; omega)
  rw [e]
  refine (out0_13_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    _ _ _ _ _ _ _ ⟨t.val, ht⟩ (fun g q k => block_input m c t ⟨t.val, ht⟩ rfl g q k) c2 c4 c6 r8 r10 r12 r (hd _ _ _) j).trans ?_
  rw [w1, w3, w5, w7, w9, w11]
  show _ = answer _ _ _ _ _ _ _ _ _ _ _ _ _ (batch ⟨4096 * t.val + r.val, _⟩) (slot ⟨4096 * t.val + r.val, _⟩)
    (point ⟨4096 * t.val + r.val, _⟩) j
  rw [eb, es, ep]

end Cert.KernelIdeal.Block

end
-- ==== Proof.Search.lean ====
/- How the reference finds a query's neighbours: the sorted search along the last axis, the look-up of rows of a
   table by an array of places, and a conjunction over an axis of ones. -/
module

public import proofs.«01_k».proof.Proof.Network

@[expose] public section

noncomputable section

namespace Cert.Neighbours

open Idealize.ShloMosaic

/-- The column of scores of one query. -/
abbrev fiber (x : FVec Ideal ⟨4, ![4, 64, 64, 64]⟩ .f32) (b : Fin 4) (w p q : Fin 64) : EReal := x (ix4 b w p q)

/-- Moving along the last axis changes the last coordinate alone. -/
theorem along_last (b : Fin 4) (w p k q : Fin 64) :
    (ix4 b w p k : (⟨4, ![4, 64, 64, 64]⟩ : Shape).Idx).along 3 q = ix4 b w p q := by
  funext a
  fin_cases a <;> rfl

/-- A stable sort of the scores with a second array, both read at `k`, reads the `k`-th place. -/
theorem sort_place {β : Type} (x : FVec Ideal ⟨4, ![4, 64, 64, 64]⟩ .f32) (y : (⟨4, ![4, 64, 64, 64]⟩ : Shape).Idx → β)
    (b : Fin 4) (w p k : Fin 64) :
    (Host.sort2 (⟨4, ![4, 64, 64, 64]⟩ : Shape) 3 (fun l r => FloatOps.cmpfTotal (F := Ideal) (φ := .f32) .gt l.1 r.1) x y).1
        (ix4 b w p k) = x (ix4 b w p (place (fiber x b w p) k))
    ∧ (Host.sort2 (⟨4, ![4, 64, 64, 64]⟩ : Shape) 3 (fun l r => FloatOps.cmpfTotal (F := Ideal) (φ := .f32) .gt l.1 r.1) x y).2
        (ix4 b w p k) = y (ix4 b w p (place (fiber x b w p) k)) := by
  have e : sortedFrom (fun q q' : Fin 64 => FloatOps.cmpfTotal (F := Ideal) (φ := .f32) .gt
        (x ((ix4 b w p k : (⟨4, ![4, 64, 64, 64]⟩ : Shape).Idx).along 3 q))
        (x ((ix4 b w p k : (⟨4, ![4, 64, 64, 64]⟩ : Shape).Idx).along 3 q')) == 1#1) k = place (fiber x b w p) k := by
    simp only [along_last]
    rfl
  constructor
  · exact (congrArg x (congrArg ((ix4 b w p k : (⟨4, ![4, 64, 64, 64]⟩ : Shape).Idx).along 3) e)).trans
      (congrArg x (along_last b w p k _))
  · exact (congrArg y (congrArg ((ix4 b w p k : (⟨4, ![4, 64, 64, 64]⟩ : Shape).Idx).along 3) e)).trans
      (congrArg y (along_last b w p k _))

/-- The `k`-th value of the sorted search is the score at the `k`-th place. -/
theorem search_value {n : ℕ} (hn : n ≤ 64) (x : FVec Ideal ⟨4, ![4, 64, 64, 64]⟩ .f32)
    (h : (⟨4, ![4, 64, 64, 64]⟩ : Shape).Slices (fun _ => 0) ⟨4, ![4, 64, 64, n]⟩) (b : Fin 4) (w p : Fin 64) (k : Fin n) :
    (Host.topK (⟨4, ![4, 64, 64, n]⟩ : Shape) 3 (FloatOps.cmpfTotal (F := Ideal) (φ := .f32) .gt) x h).1 (ix4 b w p k)
      = fiber x b w p (place (fiber x b w p) ⟨k.val, by omega⟩) := by
  unfold Host.topK
  pointwise
  exact (sort_place x _ b w p _).1

/-- The `k`-th index of the sorted search is the `k`-th place, as a word. -/
theorem search_index {n : ℕ} (hn : n ≤ 64) (x : FVec Ideal ⟨4, ![4, 64, 64, 64]⟩ .f32)
    (h : (⟨4, ![4, 64, 64, 64]⟩ : Shape).Slices (fun _ => 0) ⟨4, ![4, 64, 64, n]⟩) (b : Fin 4) (w p : Fin 64) (k : Fin n) :
    (Host.topK (⟨4, ![4, 64, 64, n]⟩ : Shape) 3 (FloatOps.cmpfTotal (F := Ideal) (φ := .f32) .gt) x h).2 (ix4 b w p k)
      = BitVec.ofNat 32 (place (fiber x b w p) ⟨k.val, by omega⟩).val := by
  unfold Host.topK
  pointwise
  exact (sort_place x _ b w p _).2

/-- A conjunction of ones is one. -/
theorem reduce_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter _ = l
  induction l with
  | nil => rfl
  | cons a l ih =>
    rw [List.foldl_cons, hx, show IntOp.andi (1#1 : BitVec 1) 1#1 = 1#1 from rfl]
    exact ih

/-- The record of a look-up of rows of a 64 × 2 table by an array of places. -/
abbrev rowLookup (wf : GatherDims.WF ⟨2, ![64, 2]⟩ ⟨5, ![4, 64, 64, 16, 1]⟩ ⟨5, ![4, 64, 64, 16, 2]⟩ [4] [0] [] [0] [] 4 ![1, 2]) :
    GatherDims ⟨2, ![64, 2]⟩ ⟨5, ![4, 64, 64, 16, 1]⟩ ⟨5, ![4, 64, 64, 16, 2]⟩ where
  offsetDims := [4]
  collapsedSliceDims := [0]
  operandBatchingDims := []
  startIndicesBatchingDims := []
  startIndexMap := [0]
  indexVectorDim := 4
  sliceSizes := ![1, 2]
  wf := wf

/-- The look-up reads the table's row the place names. -/
theorem rowLookup_apply {α : Type}
    (wf : GatherDims.WF ⟨2, ![64, 2]⟩ ⟨5, ![4, 64, 64, 16, 1]⟩ ⟨5, ![4, 64, 64, 16, 2]⟩ [4] [0] [] [0] [] 4 ![1, 2])
    (x : (⟨2, ![64, 2]⟩ : Shape).Idx → α) (idx : IVec ⟨5, ![4, 64, 64, 16, 1]⟩ 32) (b : Fin 4) (w p : Fin 64) (k : Fin 16)
    (h : Fin 2) (q : Fin 64) (hq : idx (ix5 b w p k 0) = BitVec.ofNat 32 q.val) :
    Host.gather (rowLookup wf) x idx (ix5 b w p k h) = x (ix2 q h) := by
  unfold Host.gather
  refine congrArg x (funext fun a => Fin.ext ?_)
  show (rowLookup wf).start (ix5 b w p k h) idx a + (rowLookup wf).batchCoord (ix5 b w p k h) a
    + (rowLookup wf).offCoord (ix5 b w p k h) a = _
  rw [GatherDims.batchCoord_eq_zero _ _ _ (List.not_mem_nil)]
  have hs : (rowLookup wf).siIdx (ix5 b w p k h) ⟨0, Nat.one_pos⟩ = ix5 b w p k 0 := by
    funext c
    refine Fin.ext ?_
    fin_cases c <;> rfl
  have hw : min (BitVec.ofNat 32 q.val).toInt.toNat 63 = q.val := (by decide +kernel : ∀ q : Fin 64, min (BitVec.ofNat 32 q.val).toInt.toNat 63 = q.val) q
  have h0 : (rowLookup wf).start (ix5 b w p k h) idx (0 : Fin 2)
      = min (idx ((rowLookup wf).siIdx (ix5 b w p k h) ⟨0, Nat.one_pos⟩)).toInt.toNat 63 :=
    dif_pos (List.mem_singleton.mpr rfl)
  have h1 : (rowLookup wf).start (ix5 b w p k h) idx (1 : Fin 2) = 0 := dif_neg (show (1 : Fin 2) ∉ [0] by decide)
  have o0 : (rowLookup wf).offCoord (ix5 b w p k h) (0 : Fin 2) = 0 := dif_neg (show (0 : Fin 2) ∉ [1] by decide)
  have ha2 : a.val < 2 := a.isLt
  rcases (by omega : a.val = 0 ∨ a.val = 1) with ha | ha
  · obtain rfl : a = (0 : Fin 2) := Fin.ext ha
    rw [h0, o0, hs, hq, hw]
    rfl
  · obtain rfl : a = (1 : Fin 2) := Fin.ext ha
    rw [h1]
    show 0 + 0 + h.val = h.val
    omega

/-- The record of the product of a window's points with themselves. -/
abbrev selfProduct (wf : DotDims.WF ⟨4, ![4, 64, 64, 384]⟩ ⟨4, ![4, 64, 64, 384]⟩ ⟨4, ![4, 64, 64, 64]⟩ [3] [3] [2] [2] [0, 1] [0, 1]) :
    DotDims ⟨4, ![4, 64, 64, 384]⟩ ⟨4, ![4, 64, 64, 384]⟩ ⟨4, ![4, 64, 64, 64]⟩ where
  lhsContracting := [3]
  rhsContracting := [3]
  lhsNonContracting := [2]
  rhsNonContracting := [2]
  lhsBatch := [0, 1]
  rhsBatch := [0, 1]
  wf := wf

/-- The product's row of query `p` is its column of scores. -/
theorem selfProduct_fiber
    (wf : DotDims.WF ⟨4, ![4, 64, 64, 384]⟩ ⟨4, ![4, 64, 64, 384]⟩ ⟨4, ![4, 64, 64, 64]⟩ [3] [3] [2] [2] [0, 1] [0, 1])
    (x : FVec Ideal ⟨4, ![4, 64, 64, 384]⟩ .f32) (b : Fin 4) (w p : Fin 64) :
    fiber (Host.dotGeneral (selfProduct wf) none x x) b w p = cand x b w p := by
  funext q
  unfold fiber cand
  pointwise
  exact Finset.sum_congr rfl fun c _ => mul_comm _ _

end Cert.Neighbours

end
-- ==== Proof.Steps.lean ====
/- What the reference computes, at one point of one window. -/
module

public import proofs.«01_k».proof.Proof.Search
public import proofs.«01_k».proof.Proof.Gen.ReferenceIdeal.Run

@[expose] public section

noncomputable section

namespace Cert.ReferenceIdeal.Steps

open Idealize.ShloMosaic Idealize.ShloMosaic.TcCoe Cert.ReferenceIdeal Cert.ReferenceIdeal.Facts₀ Cert.Neighbours

/-- The scores of every query of every window. -/
def sim (x : FVec Ideal S4x64x64x384 .f32) : FVec Ideal S4x64x64x64 .f32 :=
  Host.dotGeneral dot_S4x64x64x384_S4x64x64x384_S4x64x64x64_3_3_2_2_01_01 none x x

/-- The sixteen greatest scores of every query and their places. -/
def found (x : FVec Ideal S4x64x64x384 .f32) : FVec Ideal S4x64x64x16 .f32 × IVec S4x64x64x16 32 :=
  Host.topK S4x64x64x16 3 (FloatOps.cmpfTotal .gt) (sim x) sliceFits_S4x64x64x64_S4x64x64x16

/-- Every point's row and column in the grid, as words. -/
def cells : IVec S8x8x2 32 :=
  concatenate S8x8x2 2
    [⟨S8x8x1, broadcastInDim S8x8x1 ![0, 1] bcast_S8x8_S8x8x1_0_1 (shapeCast _ (broadcastInDim S8x1x8 ![0, 1] bcast_S8x1_S8x1x8_0_1
      (broadcastInDim S8x1 ![0] bcast_S8_S8x1_0 (iotaInDim S8 32 0))) shapeCasts_S8x1x8_S8x8)⟩,
     ⟨S8x8x1, broadcastInDim S8x8x1 ![0, 1] bcast_S8x8_S8x8x1_0_1 (shapeCast _ (broadcastInDim S1x8x8 ![0, 2] bcast_S1x8_S1x8x8_0_2
      (broadcastInDim S1x8 ![1] bcast_S8_S1x8_1 (iotaInDim S8 32 0))) shapeCasts_S1x8x8_S8x8)⟩]
    concatenates_S8x8x1_S8x8x1_S8x8x2_d2

/-- Every point's row and column over 7. -/
def positions : FVec Ideal S64x2 .f32 :=
  shapeCast _ (Host.divf (sitofp .f32 cells) (broadcastInDim S8x8x2 ![] bcast_S_S8x8x2 (constant S_ .f32 0x40E00000#32)))
    shapeCasts_S8x8x2_S64x2

/-- The places with a negative one counted from the end. -/
def wrapped (i : IVec S4x64x64x16 32) : IVec S4x64x64x16x1 32 :=
  broadcastInDim S4x64x64x16x1 ![0, 1, 2, 3] bcast_S4x64x64x16_S4x64x64x16x1_0_1_2_3
    (select (cmpi .slt i (broadcastInDim S4x64x64x16 ![] bcast_S_S4x64x64x16 (constantI S_ 32 0#32)))
      (addi i (broadcastInDim S4x64x64x16 ![] bcast_S_S4x64x64x16 (constantI S_ 32 64#32))) i)

/-- Which places, each on an axis of its own, lie in the window. -/
def inside (i : IVec S4x64x64x16x1 32) : IVec S4x64x64x16x1 1 :=
  andi (cmpi .sge i (broadcastInDim S4x64x64x16x1 ![] bcast_S_S4x64x64x16x1 (constantI S_ 32 0#32)))
    (cmpi .sle i (broadcastInDim S4x64x64x16x1 ![0, 1, 2, 3, 4] bcast_S1x1x1x1x1_S4x64x64x16x1_0_1_2_3_4
      (broadcastInDim S1x1x1x1x1 ![4] bcast_S1_S1x1x1x1x1_4 (constantI S1 32 63#32))))

/-- The positions at the places. -/
def taken (i : IVec S4x64x64x16 32) : FVec Ideal S4x64x64x16x2 .f32 :=
  select (broadcastInDim S4x64x64x16x2 ![0, 1, 2, 3] bcast_S4x64x64x16_S4x64x64x16x2_0_1_2_3
      (Host.reduce IntOp.andi (inside (wrapped i)) (constantI S_ 1 1#1) reducesTo_S4x64x64x16x1_S4x64x64x16_d4 h_S_))
    (Host.gather gather_S64x2_S4x64x64x16x1_S4x64x64x16x2_4_0_n_n_0_4_12 positions (wrapped i))
    (broadcastInDim S4x64x64x16x2 ![] bcast_S_S4x64x64x16x2 (constant S_ .f32 0x7FC00000#32))

/-- The offsets from every query to its sixteen neighbours. -/
def away (i : IVec S4x64x64x16 32) : FVec Ideal S4x64x64x16x2 .f32 :=
  subf (broadcastInDim S4x64x64x16x2 ![0, 1, 2, 3, 4] bcast_S1x1x64x1x2_S4x64x64x16x2_0_1_2_3_4
    (broadcastInDim S1x1x64x1x2 ![2, 4] bcast_S64x2_S1x1x64x1x2_2_4 positions)) (taken i)

/-- The 48 features of every query. -/
def traits (x : FVec Ideal S4x64x64x384 .f32) : FVec Ideal S4x64x64x48 .f32 :=
  concatenate S4x64x64x48 3
    [⟨S4x64x64x16, (found x).1⟩, ⟨S4x64x64x32, shapeCast _ (away (found x).2) shapeCasts_S4x64x64x16x2_S4x64x64x32⟩]
    concatenates_S4x64x64x16_S4x64x64x32_S4x64x64x48_d3

/-- The six layers. -/
def layer1 (v : FVec Ideal S4x64x64x48 .f32) (W : FVec Ideal S48x128 .f32) (b : FVec Ideal S128 .f32) :
    FVec Ideal S4x64x64x128 .f32 :=
  maximumf (addf (Host.dotGeneral dot_S4x64x64x48_S48x128_S4x64x64x128_3_0_012_1_n_n none v W)
      (broadcastInDim S4x64x64x128 ![0, 1, 2, 3] bcast_S1x1x1x128_S4x64x64x128_0_1_2_3 (broadcastInDim S1x1x1x128 ![3] bcast_S128_S1x1x1x128_3 b)))
    (broadcastInDim S4x64x64x128 ![] bcast_S_S4x64x64x128 (constant S_ .f32 0x00000000#32))

def layer2 (v : FVec Ideal S4x64x64x128 .f32) (W : FVec Ideal S128x128 .f32) (b : FVec Ideal S128 .f32) :
    FVec Ideal S4x64x64x128 .f32 :=
  maximumf (addf (Host.dotGeneral dot_S4x64x64x128_S128x128_S4x64x64x128_3_0_012_1_n_n none v W)
      (broadcastInDim S4x64x64x128 ![0, 1, 2, 3] bcast_S1x1x1x128_S4x64x64x128_0_1_2_3 (broadcastInDim S1x1x1x128 ![3] bcast_S128_S1x1x1x128_3 b)))
    (broadcastInDim S4x64x64x128 ![] bcast_S_S4x64x64x128 (constant S_ .f32 0x00000000#32))

def layer3 (v : FVec Ideal S4x64x64x128 .f32) (W : FVec Ideal S128x64 .f32) (b : FVec Ideal S64 .f32) :
    FVec Ideal S4x64x64x64 .f32 :=
  addf (Host.dotGeneral dot_S4x64x64x128_S128x64_S4x64x64x64_3_0_012_1_n_n none v W)
    (broadcastInDim S4x64x64x64 ![0, 1, 2, 3] bcast_S1x1x1x64_S4x64x64x64_0_1_2_3 (broadcastInDim S1x1x1x64 ![3] bcast_S64_S1x1x1x64_3 b))

/-- A point's channels with its spatial features after them. -/
def together (x : FVec Ideal S4x64x64x384 .f32) (s : FVec Ideal S4x64x64x64 .f32) : FVec Ideal S4x64x64x448 .f32 :=
  concatenate S4x64x64x448 3 [⟨S4x64x64x384, x⟩, ⟨S4x64x64x64, s⟩] concatenates_S4x64x64x384_S4x64x64x64_S4x64x64x448_d3

def layer4 (v : FVec Ideal S4x64x64x448 .f32) (W : FVec Ideal S448x512 .f32) (b : FVec Ideal S512 .f32) :
    FVec Ideal S4x64x64x512 .f32 :=
  maximumf (addf (Host.dotGeneral dot_S4x64x64x448_S448x512_S4x64x64x512_3_0_012_1_n_n none v W)
      (broadcastInDim S4x64x64x512 ![0, 1, 2, 3] bcast_S1x1x1x512_S4x64x64x512_0_1_2_3 (broadcastInDim S1x1x1x512 ![3] bcast_S512_S1x1x1x512_3 b)))
    (broadcastInDim S4x64x64x512 ![] bcast_S_S4x64x64x512 (constant S_ .f32 0x00000000#32))

def layer5 (v : FVec Ideal S4x64x64x512 .f32) (W : FVec Ideal S512x512 .f32) (b : FVec Ideal S512 .f32) :
    FVec Ideal S4x64x64x512 .f32 :=
  maximumf (addf (Host.dotGeneral dot_S4x64x64x512_S512x512_S4x64x64x512_3_0_012_1_n_n none v W)
      (broadcastInDim S4x64x64x512 ![0, 1, 2, 3] bcast_S1x1x1x512_S4x64x64x512_0_1_2_3 (broadcastInDim S1x1x1x512 ![3] bcast_S512_S1x1x1x512_3 b)))
    (broadcastInDim S4x64x64x512 ![] bcast_S_S4x64x64x512 (constant S_ .f32 0x00000000#32))

def layer6 (v : FVec Ideal S4x64x64x512 .f32) (W : FVec Ideal S512x256 .f32) (b : FVec Ideal S256 .f32) :
    FVec Ideal S4x64x64x256 .f32 :=
  addf (Host.dotGeneral dot_S4x64x64x512_S512x256_S4x64x64x256_3_0_012_1_n_n none v W)
    (broadcastInDim S4x64x64x256 ![0, 1, 2, 3] bcast_S1x1x1x256_S4x64x64x256_0_1_2_3 (broadcastInDim S1x1x1x256 ![3] bcast_S256_S1x1x1x256_3 b))

set_option maxRecDepth 8192 in
/-- The reference's result is the six layers one after another. -/
theorem result_eq (m : (ℓ : Loc nD τ sig) → Buf (Elt Ideal) ℓ) (c : Dev nD) :
    Value.res_main_v51 m c = shapeCast S16384x256
      (layer6 (layer5 (layer4 (together (m ((c.tc : Thread nD τ).loc main_arg0))
        (layer3 (layer2 (layer1 (traits (m ((c.tc : Thread nD τ).loc main_arg0)))
          (m ((c.tc : Thread nD τ).loc main_arg1)) (m ((c.tc : Thread nD τ).loc main_arg2)))
          (m ((c.tc : Thread nD τ).loc main_arg3)) (m ((c.tc : Thread nD τ).loc main_arg4)))
          (m ((c.tc : Thread nD τ).loc main_arg5)) (m ((c.tc : Thread nD τ).loc main_arg6))))
        (m ((c.tc : Thread nD τ).loc main_arg7)) (m ((c.tc : Thread nD τ).loc main_arg8)))
        (m ((c.tc : Thread nD τ).loc main_arg9)) (m ((c.tc : Thread nD τ).loc main_arg10)))
        (m ((c.tc : Thread nD τ).loc main_arg11)) (m ((c.tc : Thread nD τ).loc main_arg12)))
      shapeCasts_S4x64x64x256_S16384x256 := by
  unfold Value.res_main_v51
  rfl

end Cert.ReferenceIdeal.Steps

end
-- ==== Proof.Reference.lean ====
/- What the reference's steps hold at one point of one window. -/
module

public import proofs.«01_k».proof.Proof.Steps

@[expose] public section

namespace Cert.ReferenceIdeal.Steps

open Idealize.ShloMosaic Idealize.ShloMosaic.TcCoe Cert.ReferenceIdeal Cert.ReferenceIdeal.Facts₀ Cert.Neighbours

/-- The scores found are the greatest of the query's column. -/
theorem found_score (x : FVec Ideal S4x64x64x384 .f32) (b : Fin 4) (w p : Fin 64) (k : Fin 16) :
    (found x).1 (ix4 b w p k) = topScores (cand x b w p) k := by
  have f : fiber (sim x) b w p = cand x b w p := selfProduct_fiber _ x b w p
  rw [found, search_value (by omega) _ _ b w p k, f]
  rfl

/-- The places found are theirs. -/
theorem found_place (x : FVec Ideal S4x64x64x384 .f32) (b : Fin 4) (w p : Fin 64) (k : Fin 16) :
    (found x).2 (ix4 b w p k) = BitVec.ofNat 32 (topPlaces (cand x b w p) k).val := by
  have f : fiber (sim x) b w p = cand x b w p := selfProduct_fiber _ x b w p
  rw [found, search_index (by omega) _ _ b w p k, f]
  rfl

/-- The table of grid cells: a point's row, then its column. -/
theorem cells_apply : ∀ (r s : Fin 8) (h : Fin 2), cells (ix3 r s h) = BitVec.ofNat 32 (if h.val = 0 then r.val else s.val) := by
  intro r s h
  fin_cases h
  all_goals
    unfold cells
    pointwise

/-- Layer 1 at one point. -/
theorem layer1_apply (v : FVec Ideal S4x64x64x48 .f32) (W : FVec Ideal S48x128 .f32) (u : FVec Ideal S128 .f32)
    (b : Fin 4) (w p : Fin 64) (j : Fin 128) :
    layer1 v W u (ix4 b w p j) = relu (lin (fun i => v (ix4 b w p i)) W u) j := by
  unfold layer1 relu lin
  pointwise

/-- Layer 2 at one point. -/
theorem layer2_apply (v : FVec Ideal S4x64x64x128 .f32) (W : FVec Ideal S128x128 .f32) (u : FVec Ideal S128 .f32)
    (b : Fin 4) (w p : Fin 64) (j : Fin 128) :
    layer2 v W u (ix4 b w p j) = relu (lin (fun i => v (ix4 b w p i)) W u) j := by
  unfold layer2 relu lin
  pointwise

/-- Layer 3 at one point. -/
theorem layer3_apply (v : FVec Ideal S4x64x64x128 .f32) (W : FVec Ideal S128x64 .f32) (u : FVec Ideal S64 .f32)
    (b : Fin 4) (w p : Fin 64) (j : Fin 64) :
    layer3 v W u (ix4 b w p j) = lin (fun i => v (ix4 b w p i)) W u j := by
  unfold layer3 lin
  pointwise

/-- Layer 4 at one point. -/
theorem layer4_apply (v : FVec Ideal S4x64x64x448 .f32) (W : FVec Ideal S448x512 .f32) (u : FVec Ideal S512 .f32)
    (b : Fin 4) (w p : Fin 64) (j : Fin 512) :
    layer4 v W u (ix4 b w p j) = relu (lin (fun i => v (ix4 b w p i)) W u) j := by
  unfold layer4 relu lin
  pointwise

/-- Layer 5 at one point. -/
theorem layer5_apply (v : FVec Ideal S4x64x64x512 .f32) (W : FVec Ideal S512x512 .f32) (u : FVec Ideal S512 .f32)
    (b : Fin 4) (w p : Fin 64) (j : Fin 512) :
    layer5 v W u (ix4 b w p j) = relu (lin (fun i => v (ix4 b w p i)) W u) j := by
  unfold layer5 relu lin
  pointwise

/-- Layer 6 at one point. -/
theorem layer6_apply (v : FVec Ideal S4x64x64x512 .f32) (W : FVec Ideal S512x256 .f32) (u : FVec Ideal S256 .f32)
    (b : Fin 4) (w p : Fin 64) (j : Fin 256) :
    layer6 v W u (ix4 b w p j) = lin (fun i => v (ix4 b w p i)) W u j := by
  unfold layer6 lin
  pointwise

/-- The last three layers' input at one point. -/
theorem together_apply (x : FVec Ideal S4x64x64x384 .f32) (s : FVec Ideal S4x64x64x64 .f32) (b : Fin 4) (w p : Fin 64) (i : Fin 448) :
    together x s (ix4 b w p i) = joined (fun c => x (ix4 b w p c)) (fun k => s (ix4 b w p k)) i := by
  unfold together joined
  pointwise

/-- Row `q` of the table of positions is point `q`'s row and column over 7. -/
theorem positions_apply (q : Fin 64) (h : Fin 2) :
    positions (ix2 q h) = (((coord h.val q.val : ℝ) / 7 : ℝ) : EReal) := by
  unfold positions
  pointwise
  have h7 : Ideal.ofBits .f32 0x40E00000#32 = ((7 : ℝ) : EReal) := by
    simp [Ideal.ofBits, Ideal.ieee, -EReal.coe_mul]
    norm_num
  rw [cells_apply, sitofp_nat _ _ (by split <;> dsimp only <;> omega), h7, Ideal.div_coe (by norm_num), ← EReal.coe_mul,
    mul_one_div, coord]

/-- The wrapped place, on its axis, is the place. -/
theorem wrapped_apply (i : IVec S4x64x64x16 32) (b : Fin 4) (w p : Fin 64) (k : Fin 16) (q : Fin 64)
    (hq : i (ix4 b w p k) = BitVec.ofNat 32 q.val) : wrapped i (ix5 b w p k 0) = BitVec.ofNat 32 q.val := by
  unfold wrapped
  pointwise
  rw [hq]
  clear hq
  revert q
  decide +kernel

/-- A place lies in the window. -/
theorem inside_apply (i : IVec S4x64x64x16x1 32) (b : Fin 4) (w p : Fin 64) (k : Fin 16) (q : Fin 64)
    (hq : i (ix5 b w p k 0) = BitVec.ofNat 32 q.val) : inside i (ix5 b w p k 0) = 1#1 := by
  unfold inside
  pointwise
  rw [hq]
  clear hq
  revert q
  decide +kernel

/-- The position taken at a place is the place's position. -/
theorem taken_apply (i : IVec S4x64x64x16 32) (b : Fin 4) (w p : Fin 64) (k : Fin 16) (h : Fin 2) (q : Fin 64)
    (hq : i (ix4 b w p k) = BitVec.ofNat 32 q.val) : taken i (ix5 b w p k h) = positions (ix2 q h) := by
  have hw := wrapped_apply i b w p k q hq
  have hi := inside_apply (wrapped i) b w p k q hw
  have hg : Host.gather gather_S64x2_S4x64x64x16x1_S4x64x64x16x2_4_0_n_n_0_4_12 positions (wrapped i) (ix5 b w p k h)
      = positions (ix2 q h) := rowLookup_apply _ positions (wrapped i) b w p k h q hw
  unfold taken
  pointwise
  rw [hg]
  have hf : Finset.fold IntOp.andi (1#1) (fun z => inside (wrapped i) (ix5 b w p k z)) (Finset.univ : Finset (Fin 1)) = 1#1 := by
    rw [show (Finset.univ : Finset (Fin 1)) = {0} from rfl, Finset.fold_singleton, hi]
    rfl
  rw [hf]
  rfl

/-- The offset to a place. -/
theorem away_apply (i : IVec S4x64x64x16 32) (b : Fin 4) (w p : Fin 64) (k : Fin 16) (h : Fin 2) (q : Fin 64)
    (hq : i (ix4 b w p k) = BitVec.ofNat 32 q.val) : away i (ix5 b w p k h) = offset h.val p.val q.val := by
  unfold away
  pointwise
  rw [taken_apply i b w p k h q hq, positions_apply, positions_apply, ← EReal.coe_sub, offset, sub_div]

/-- The features of one query. -/
theorem traits_apply (x : FVec Ideal S4x64x64x384 .f32) (b : Fin 4) (w p : Fin 64) (i : Fin 48) :
    traits x (ix4 b w p i) = features (topScores (cand x b w p)) p (topPlaces (cand x b w p)) i := by
  unfold traits features
  pointwise
  split
  · exact found_score x b w p _
  · exact away_apply _ b w p _ _ _ (found_place x b w p _)

/-- The reference's result holds the problem's answers. -/
theorem result_apply (m : (ℓ : Loc nD τ sig) → Buf (Elt Ideal) ℓ) (c : Dev nD) (R : Fin 16384) (j : Fin 256) :
    Value.res_main_v51 m c (ix2 R j) = answer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (batch R) (slot R) (point R) j := by
  rw [result_eq]
  refine (shapeCast_apply _ _ _ (ix4 (batch R) (slot R) (point R) j) ?_).trans ?_
  · refine (Shape.rowMajor_val_four (d := S4x64x64x256.size) _).trans
      (Eq.trans ?_ (Shape.rowMajor_val_two (d := S16384x256.size) _).symm)
    show ((R.val / 4096 * 64 + R.val / 64 % 64) * 64 + R.val % 64) * 256 + j.val = R.val * 256 + j.val
    omega
  · rw [layer6_apply]
    simp only [layer5_apply, layer4_apply, together_apply, layer3_apply, layer2_apply, layer1_apply, traits_apply]
    rfl

end Cert.ReferenceIdeal.Steps

end
-- ==== Proof.Precondition.lean ====
/- What the precondition says: in every window, every query's sixteen greatest scores are different from one another
   and from the seventeenth. -/
module

public import proofs.«01_k».proof.Pre_distinct_top
public import proofs.«01_k».proof.Proof.Search
public import proofs.«01_k».proof.Proof.Network

@[expose] public section

namespace Cert.Neighbours

open Idealize.ShloMosaic Cert.Pre_distinct_top

/-- The precondition's side conditions. -/
instance distinct_top_facts : Cert.Pre_distinct_top.Facts where
  sliceFits_S4x64x64x64_S4x64x64x17 := by decide
  slices_S4x64x64x17_S4x64x64x16_0_0_0_0 := by decide
  slices_S4x64x64x17_S4x64x64x16_0_0_0_1 := by decide
  dot_S4x64x64x384_S4x64x64x384_S4x64x64x64_3_3_2_2_01_01_wf := by decide

/-- Where the precondition reads ones, every query's sixteen greatest scores and the next are different. -/
theorem distinct_of_ones (a0 : FVec Ideal S4x64x64x384 .f32) (a1 : FVec Ideal S48x128 .f32) (a2 : FVec Ideal S128 .f32)
    (a3 : FVec Ideal S128x128 .f32) (a4 : FVec Ideal S128 .f32) (a5 : FVec Ideal S128x64 .f32) (a6 : FVec Ideal S64 .f32)
    (a7 : FVec Ideal S448x512 .f32) (a8 : FVec Ideal S512 .f32) (a9 : FVec Ideal S512x512 .f32) (a10 : FVec Ideal S512 .f32)
    (a11 : FVec Ideal S512x256 .f32) (a12 : FVec Ideal S256 .f32)
    (h : Cert.Pre_distinct_top.fn (F := Ideal) a0 a1 a2 a3 a4 a5 a6 a7 a8 a9 a10 a11 a12 = fun _ => 1#1)
    (b : Fin 4) (w p : Fin 64) : Distinct (cand a0 b w p) := by
  intro k
  have f : fiber (Host.dotGeneral dot_S4x64x64x384_S4x64x64x384_S4x64x64x64_3_3_2_2_01_01 none a0 a0) b w p
      = cand a0 b w p := selfProduct_fiber _ a0 b w p
  have v : ∀ i : Fin 17, (Host.topK S4x64x64x17 3 (FloatOps.cmpfTotal (F := Ideal) (φ := .f32) .gt)
      (Host.dotGeneral dot_S4x64x64x384_S4x64x64x384_S4x64x64x64_3_3_2_2_01_01 none a0 a0)
      Facts.sliceFits_S4x64x64x64_S4x64x64x17).1 (ix4 b w p i)
      = cand a0 b w p (place (cand a0 b w p) ⟨i.val, by omega⟩) := fun i => by
    rw [search_value (by omega) _ _ b w p i]
    rw [f]
  have key : ∀ T : FVec Ideal S4x64x64x17 .f32,
      cmpf .ogt (extractStridedSlice S4x64x64x16 ![0, 0, 0, 0] T Facts.slices_S4x64x64x17_S4x64x64x16_0_0_0_0)
        (extractStridedSlice S4x64x64x16 ![0, 0, 0, 1] T Facts.slices_S4x64x64x17_S4x64x64x16_0_0_0_1) (ix4 b w p k) = 1#1 →
      T (ix4 b w p ⟨k.val + 1, by omega⟩) < T (ix4 b w p ⟨k.val, by omega⟩) := by
    intro T e
    pointwise at e
    by_contra hn
    rw [show (⟨1 + k.val, by omega⟩ : Fin 17) = ⟨k.val + 1, by omega⟩ from Fin.ext (Nat.add_comm _ _),
      decide_eq_false hn] at e
    exact absurd e (by decide)
  exact lt_of_eq_of_lt (v ⟨k.val + 1, by omega⟩).symm
    (lt_of_lt_of_eq (key _ (congrFun h (ix4 b w p k))) (v ⟨k.val, by omega⟩))

end Cert.Neighbours

end
-- ==== Proof.Equation.lean ====
/- The claims of the certificate: the frames, the named constant, and the equation of the kernel's result and the
   reference's over the extended reals. -/
module

public import proofs.«01_k».proof.Defs
public import proofs.«01_k».proof.Proof.Array
public import proofs.«01_k».proof.Proof.Reference
public import proofs.«01_k».proof.Proof.Precondition
public import proofs.«01_k».proof.Proof.Gen.Kernel.Frame
public import Idealize.ShloMosaic.Adequacy
public import Idealize.ShloMosaic.Init

@[expose] public section

namespace Cert.Neighbours

open Idealize.ShloMosaic Idealize.ShloMosaic.TcCoe Idealize.SL.Sem

/-- The frame of the kernel over the machine's floats. -/
theorem frame_p : Cert.quiescent_Kernel := fun m g _ => Cert.Kernel.Gen.frame m g

/-- The frame of the kernel over the extended reals, of every memory. -/
theorem frame_pi : Cert.quiescent_KernelIdeal := fun m g _ => Cert.KernelIdeal.Gen.frame m g

/-- The same frame of the memories the precondition holds of. -/
theorem frame_pi_distinct : Cert.quiescent_KernelIdeal_pre_distinct_top := fun m g _ => Cert.KernelIdeal.Gen.frame m g

/-- The frame of the reference, of every memory. -/
theorem frame_ri : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same frame of the memories the precondition holds of. -/
theorem frame_ri_distinct : Cert.quiescent_ReferenceIdeal_pre_distinct_top := fun m g _ => frame_ri m g trivial

/-- The kernel's named constant is one seventh. -/
theorem preserves : Cert.preserves_Kernel_KernelIdeal :=
  IdealRules.named_const.statement Cert.KernelIdeal.κ "seventh" .f32 0x3E124925#32 ((1 / 7 : ℝ) : EReal) rfl

/-- Where every query's greatest scores are different, the kernel's result is the reference's. -/
theorem algebraic : Cert.algebraic_KernelIdeal_ReferenceIdeal_pre_distinct_top := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4, e5, e6, e7, e8, e9, e10, e11, e12⟩ := hagree c
  refine Eq.trans ?_ (Cert.KernelIdeal.Block.array_eq m c
    (distinct_of_ones _ _ _ _ _ _ _ _ _ _ _ _ _ (hpre c))).symm
  rw [← e0, ← e1, ← e2, ← e3, ← e4, ← e5, ← e6, ← e7, ← e8, ← e9, ← e10, ← e11, ← e12]
  funext y
  obtain ⟨R, j, rfl⟩ : ∃ (R : Fin 16384) (j : Fin 256), y = ix2 R j := ⟨y 0, y 1, funext fun a => by fin_cases a <;> rfl⟩
  exact Cert.ReferenceIdeal.Steps.result_apply m' c R j

end Cert.Neighbours

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Neighbours.distinct_top_facts,
    Cert.Neighbours.frame_p, Cert.Neighbours.frame_pi, Cert.Neighbours.frame_pi_distinct, Cert.Neighbours.frame_ri,
    Cert.Neighbours.frame_ri_distinct, Cert.Neighbours.preserves, Cert.Neighbours.algebraic⟩

end Cert.Proof

end
